-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_band_in_range [hPre_band_in_range : Cert.Pre_band_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_band_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_band_in_range [hPre_band_in_range : Cert.Pre_band_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_band_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_band_in_range [hKernelIdeal : Cert.KernelIdeal.Facts] [hPre_band_in_range : Cert.Pre_band_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_band_in_range [hReferenceIdeal : Cert.ReferenceIdeal.Facts] [hPre_band_in_range : Cert.Pre_band_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_band_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_band_in_range [hKernelIdeal : Cert.KernelIdeal.Facts] [hReferenceIdeal : Cert.ReferenceIdeal.Facts] [hPre_band_in_range : Cert.Pre_band_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_band_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_band_in_range : Cert.Pre_band_in_range.Facts),
    quiescent_Kernel (hKernel := hKernel)
    ∧ quiescent_KernelIdeal (hKernelIdeal := hKernelIdeal)
    ∧ quiescent_KernelIdeal_pre_band_in_range (hKernelIdeal := hKernelIdeal) (hPre_band_in_range := hPre_band_in_range)
    ∧ quiescent_ReferenceIdeal (hReferenceIdeal := hReferenceIdeal)
    ∧ quiescent_ReferenceIdeal_pre_band_in_range (hReferenceIdeal := hReferenceIdeal) (hPre_band_in_range := hPre_band_in_range)
    ∧ preserves_Kernel_KernelIdeal
    ∧ algebraic_KernelIdeal_ReferenceIdeal_pre_band_in_range (hKernelIdeal := hKernelIdeal) (hReferenceIdeal := hReferenceIdeal) (hPre_band_in_range := hPre_band_in_range)
-- ==== Pre_band_in_range.lean ====
abbrev S4096x1025 : Shape := ⟨2, ![4096, 1025]⟩
abbrev S1024x1024 : Shape := ⟨2, ![1024, 1024]⟩
abbrev S1024 : Shape := ⟨1, ![1024]⟩
abbrev S8x1024x8 : Shape := ⟨3, ![8, 1024, 8]⟩
abbrev S8x8x1024 : Shape := ⟨3, ![8, 8, 1024]⟩
abbrev S4096x1 : Shape := ⟨2, ![4096, 1]⟩
abbrev S_ : Shape := ⟨0, ![]⟩

class Facts : Prop where
  slices_S4096x1025_S4096x1_0_1024 : S4096x1025.Slices ![0, 1024] S4096x1
  bcast_S_S4096x1 : S_.BroadcastsInDim S4096x1 (![] : Fin 0 → Fin S4096x1.rank)

variable [Facts]

def fn {F : FTy → Type} [FloatOps F] (main_arg0 : FVec F S4096x1025 .f32) (main_arg1 : FVec F S1024x1024 .f32) (main_arg2 : FVec F S1024 .f32) (main_arg3 : FVec F S1024x1024 .f32) (main_arg4 : FVec F S1024 .f32) (main_arg5 : FVec F S8x1024x8 .f32) (main_arg6 : FVec F S8x8x1024 .f32) (main_arg7 : FVec F S8x1024x8 .f32) (main_arg8 : FVec F S8x8x1024 .f32) : IVec S4096x1 1 :=
  let main_v0 : FVec F S4096x1 .f32 := (extractStridedSlice S4096x1 ![0, 1024] · slices_S4096x1025_S4096x1_0_1024) main_arg0
  let main_v1 : IVec S4096x1 32 := fptosi 32 main_v0
  let main_c : IVec S_ 32 := constantI S_ 32 0#32
  let main_v2 : IVec S4096x1 32 := broadcastInDim S4096x1 ![] bcast_S_S4096x1 main_c
  let main_v3 : IVec S4096x1 1 := cmpi .sge main_v1 main_v2
  let main_c_0 : IVec S_ 32 := constantI S_ 32 8#32
  let main_v4 : IVec S4096x1 32 := broadcastInDim S4096x1 ![] bcast_S_S4096x1 main_c_0
  let main_v5 : IVec S4096x1 1 := cmpi .slt main_v1 main_v4
  let main_v6 : IVec S4096x1 1 := andi main_v3 main_v5
  main_v6
-- ==== Kernel.lean ====
abbrev S4096x1025 : Shape := ⟨2, ![4096, 1025]⟩
abbrev S1024x1024 : Shape := ⟨2, ![1024, 1024]⟩
abbrev S1024 : Shape := ⟨1, ![1024]⟩
abbrev S8x1024x8 : Shape := ⟨3, ![8, 1024, 8]⟩
abbrev S8x8x1024 : Shape := ⟨3, ![8, 8, 1024]⟩
abbrev S64x1024 : Shape := ⟨2, ![64, 1024]⟩
abbrev S1x1024 : Shape := ⟨2, ![1, 1024]⟩
abbrev S1025x4096 : Shape := ⟨2, ![1025, 4096]⟩
abbrev S4096x1024 : Shape := ⟨2, ![4096, 1024]⟩
abbrev S1025x1024 : Shape := ⟨2, ![1025, 1024]⟩

abbrev nBuf : Space → Nat
  | .hbm => 19
  | .vmem => 12
  | .smem => 0
  | _ => 0

abbrev bufTy : (tb : Table) → Fin (tcTables nBuf tb) → BufTy
  | .hbm, ⟨0, _⟩ => ⟨S4096x1025, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8x1024x8, .f32⟩
  | .hbm, ⟨6, _⟩ => ⟨S8x8x1024, .f32⟩
  | .hbm, ⟨7, _⟩ => ⟨S8x1024x8, .f32⟩
  | .hbm, ⟨8, _⟩ => ⟨S8x8x1024, .f32⟩
  | .hbm, ⟨9, _⟩ => ⟨S8x8x1024, .f32⟩
  | .hbm, ⟨10, _⟩ => ⟨S64x1024, .f32⟩
  | .hbm, ⟨11, _⟩ => ⟨S64x1024, .f32⟩
  | .hbm, ⟨12, _⟩ => ⟨S8x8x1024, .f32⟩
  | .hbm, ⟨13, _⟩ => ⟨S64x1024, .f32⟩
  | .hbm, ⟨14, _⟩ => ⟨S64x1024, .f32⟩
  | .hbm, ⟨15, _⟩ => ⟨S1x1024, .f32⟩
  | .hbm, ⟨16, _⟩ => ⟨S1x1024, .f32⟩
  | .hbm, ⟨17, _⟩ => ⟨S1025x4096, .f32⟩
  | .hbm, ⟨18, _⟩ => ⟨S4096x1024, .f32⟩
  | .local _ .vmem, ⟨0, _⟩ => ⟨S1025x1024, .f32⟩
  | .local _ .vmem, ⟨1, _⟩ => ⟨S1025x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S1024x1024, .f32⟩
  | .local _ .vmem, ⟨11, _⟩ => ⟨S1024x1024, .f32⟩
  | _, _ => ⟨S4096x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1025x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S4096x1025 : Shape := ⟨2, ![4096, 1025]⟩
abbrev S1024x1024 : Shape := ⟨2, ![1024, 1024]⟩
abbrev S1024 : Shape := ⟨1, ![1024]⟩
abbrev S8x1024x8 : Shape := ⟨3, ![8, 1024, 8]⟩
abbrev S8x8x1024 : Shape := ⟨3, ![8, 8, 1024]⟩
abbrev S4096x1024 : Shape := ⟨2, ![4096, 1024]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S4096x1024x8 : Shape := ⟨3, ![4096, 1024, 8]⟩
abbrev S4096x8x1024 : Shape := ⟨3, ![4096, 8, 1024]⟩
abbrev S1x1024 : Shape := ⟨2, ![1, 1024]⟩
abbrev S4096x8 : Shape := ⟨2, ![4096, 8]⟩

abbrev nBuf : Space → Nat
  | .hbm => 137
  | .vmem => 0
  | .smem => 0
  | _ => 0

abbrev hbmTy0_0 (i : Nat) : BufTy := match i % 128 with
  | 0 => ⟨S4096x1025, .f32⟩
  | 1 => ⟨S1024x1024, .f32⟩
  | 2 => ⟨S1024, .f32⟩
  | 3 => ⟨S1024x1024, .f32⟩
  | 4 => ⟨S1024, .f32⟩
  | 5 => ⟨S8x1024x8, .f32⟩
  | 6 => ⟨S8x8x1024, .f32⟩
  | 7 => ⟨S8x1024x8, .f32⟩
  | 8 => ⟨S8x8x1024, .f32⟩
  | 9 => ⟨S4096x1024, .f32⟩
  | 10 => ⟨S4096x1, .f32⟩
  | 11 => ⟨S4096, .f32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S1, .i32⟩
  | 22 => ⟨S_, .i32⟩
  | 23 => ⟨S4096x1, .i32⟩
  | 24 => ⟨S4096x1, .i1⟩
  | 25 => ⟨S1x1, .i32⟩
  | 26 => ⟨S4096x1, .i32⟩
  | 27 => ⟨S4096x1, .i1⟩
  | 28 => ⟨S4096x1, .i1⟩
  | 29 => ⟨S_, .i1⟩
  | 30 => ⟨S4096, .i1⟩
  | 31 => ⟨S4096x1024x8, .f32⟩
  | 32 => ⟨S4096x1024x8, .i1⟩
  | 33 => ⟨S_, .f32⟩
  | 34 => ⟨S4096x1024x8, .f32⟩
  | 35 => ⟨S4096x1024x8, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S1, .i32⟩
  | 45 => ⟨S_, .i32⟩
  | 46 => ⟨S4096x1, .i32⟩
  | 47 => ⟨S4096x1, .i1⟩
  | 48 => ⟨S1x1, .i32⟩
  | 49 => ⟨S4096x1, .i32⟩
  | 50 => ⟨S4096x1, .i1⟩
  | 51 => ⟨S4096x1, .i1⟩
  | 52 => ⟨S_, .i1⟩
  | 53 => ⟨S4096, .i1⟩
  | 54 => ⟨S4096x8x1024, .f32⟩
  | 55 => ⟨S4096x8x1024, .i1⟩
  | 56 => ⟨S_, .f32⟩
  | 57 => ⟨S4096x8x1024, .f32⟩
  | 58 => ⟨S4096x8x1024, .f32⟩
  | 59 => ⟨S1024x1024, .f32⟩
  | 60 => ⟨S4096x1024, .f32⟩
  | 61 => ⟨S1x1024, .f32⟩
  | 62 => ⟨S4096x1024, .f32⟩
  | 63 => ⟨S4096x1024, .f32⟩
  | 64 => ⟨S4096x8, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S_, .f32⟩
  | 75 => ⟨S_, .f32⟩
  | 76 => ⟨S4096x1024, .f32⟩
  | 77 => ⟨S4096x1024, .f32⟩
  | 78 => ⟨S4096x1024, .f32⟩
  | 79 => ⟨S4096x1024, .f32⟩
  | 80 => ⟨S1024x1024, .f32⟩
  | 81 => ⟨S4096x1024, .f32⟩
  | 82 => ⟨S1x1024, .f32⟩
  | 83 => ⟨S4096x1024, .f32⟩
  | 84 => ⟨S4096x1024, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S1, .i32⟩
  | 94 => ⟨S_, .i32⟩
  | 95 => ⟨S4096x1, .i32⟩
  | 96 => ⟨S4096x1, .i1⟩
  | 97 => ⟨S1x1, .i32⟩
  | 98 => ⟨S4096x1, .i32⟩
  | 99 => ⟨S4096x1, .i1⟩
  | 100 => ⟨S4096x1, .i1⟩
  | 101 => ⟨S_, .i1⟩
  | 102 => ⟨S4096, .i1⟩
  | 103 => ⟨S4096x1024x8, .f32⟩
  | 104 => ⟨S4096x1024x8, .i1⟩
  | 105 => ⟨S_, .f32⟩
  | 106 => ⟨S4096x1024x8, .f32⟩
  | 107 => ⟨S4096x1024x8, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S1, .i32⟩
  | 117 => ⟨S_, .i32⟩
  | 118 => ⟨S4096x1, .i32⟩
  | 119 => ⟨S4096x1, .i1⟩
  | 120 => ⟨S1x1, .i32⟩
  | 121 => ⟨S4096x1, .i32⟩
  | 122 => ⟨S4096x1, .i1⟩
  | 123 => ⟨S4096x1, .i1⟩
  | 124 => ⟨S_, .i1⟩
  | 125 => ⟨S4096, .i1⟩
  | 126 => ⟨S4096x8x1024, .f32⟩
  | 127 => ⟨S4096x8x1024, .i1⟩
  | _ => ⟨S4096x1025, .f32⟩

abbrev hbmTy0_1 (i : Nat) : BufTy := match i % 128 with
  | 0 => ⟨S_, .f32⟩
  | 1 => ⟨S4096x8x1024, .f32⟩
  | 2 => ⟨S4096x8x1024, .f32⟩
  | 3 => ⟨S4096x8, .f32⟩
  | 4 => ⟨S4096x1024, .f32⟩
  | 5 => ⟨S_, .f32⟩
  | 6 => ⟨S4096x1024, .f32⟩
  | 7 => ⟨S4096x1024, .f32⟩
  | 8 => ⟨S4096x1024, .f32⟩
  | _ => ⟨S4096x1025, .f32⟩

abbrev hbmTy (i : Nat) : BufTy := match i / 128 with
  | 0 => hbmTy0_0 i
  | 1 => hbmTy0_1 i
  | _ => ⟨S4096x1025, .f32⟩

abbrev bufTy : (tb : Table) → Fin (tcTables nBuf tb) → BufTy
  | .hbm, ⟨i, _⟩ => hbmTy i
  | _, _ => ⟨S4096x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_1 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v29 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_v14 : Ref sig .tc := ⟨.hbm, 127, rfl⟩
abbrev main_call3_cst : Ref sig .tc := ⟨.hbm, 128, rfl⟩
abbrev main_call3_v15 : Ref sig .tc := ⟨.hbm, 129, rfl⟩
abbrev main_v30 : Ref sig .tc := ⟨.hbm, 130, rfl⟩
abbrev main_v31 : Ref sig .tc := ⟨.hbm, 131, rfl⟩
abbrev main_v32 : Ref sig .tc := ⟨.hbm, 132, rfl⟩
abbrev main_cst_2 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩

abbrev nD : Nat := 1
abbrev τ : Topo := Topo.v7x

variable {F : FTy → Type} [FloatOps F]
-- ==== Proof.Spec.lean ====
/- What both programs compute, written once on the extended reals: a two-layer perceptron whose layers each carry a
   low-rank adapter chosen per row by a band number; and the two facts of arithmetic that the comparison rests on: a
   masked sum over all 64 (band, rank) pairs is the sum over the chosen band's 8 ranks, and the kernel's spelling of
   GELU with `erf` is the reference's with `erfc`. -/
module

public import Idealize.ShloMosaic.PureOps.Ideal
public import Idealize.ShloMosaic.PureOps.Ideal.Laws
public import Idealize.ShloMosaic.Lib.ValueIdx

@[expose] public section

noncomputable section

namespace Cert.Spec

open Idealize.ShloMosaic Idealize.ShloMosaic.ValueIdx

/-! ## The function -/

/-- An output of the dense layer: the row's product with row `o` of the weights, plus the bias. -/
def dense (row : Fin 1024 → EReal) (W : (⟨2, ![1024, 1024]⟩ : Shape).Idx → EReal)
    (b : (⟨1, ![1024]⟩ : Shape).Idx → EReal) (o : Fin 1024) : EReal :=
  (∑ d : Fin 1024, row d * W (ix2 o d)) + b (ix1 o)

/-- The row projected to rank coordinate `r` by band `g`'s down-projection. -/
def down (row : Fin 1024 → EReal) (A : (⟨3, ![8, 1024, 8]⟩ : Shape).Idx → EReal) (g r : Fin 8) : EReal :=
  ∑ d : Fin 1024, row d * A (ix3 g d r)

/-- An output of band `g`'s adapter: down to 8 ranks and up again. -/
def adapter (row : Fin 1024 → EReal) (A : (⟨3, ![8, 1024, 8]⟩ : Shape).Idx → EReal)
    (B : (⟨3, ![8, 8, 1024]⟩ : Shape).Idx → EReal) (g : Fin 8) (o : Fin 1024) : EReal :=
  ∑ r : Fin 8, down row A g r * B (ix3 g r o)

/-- One layer: the dense output plus twice the adapter's. -/
def layer (row : Fin 1024 → EReal) (W : (⟨2, ![1024, 1024]⟩ : Shape).Idx → EReal)
    (b : (⟨1, ![1024]⟩ : Shape).Idx → EReal) (A : (⟨3, ![8, 1024, 8]⟩ : Shape).Idx → EReal)
    (B : (⟨3, ![8, 8, 1024]⟩ : Shape).Idx → EReal) (g : Fin 8) (o : Fin 1024) : EReal :=
  dense row W b o + adapter row A B g o * ((2 : ℝ) : EReal)

/-- The exact GELU, `z/2 · (1 + erf (z/√2))`. -/
def gelu (z : EReal) : EReal :=
  ((1 / 2 : ℝ) : EReal) * z * (1 + Ideal.erf (z * (((Real.sqrt 2)⁻¹ : ℝ) : EReal)))

/-- The features of row `n`: its first 1024 columns. -/
def feats (x : (⟨2, ![4096, 1025]⟩ : Shape).Idx → EReal) (n : Fin 4096) (d : Fin 1024) : EReal :=
  x (ix2 n ⟨d.val, by omega⟩)

/-- The band word of row `n`: its last column, truncated to a 32-bit integer. -/
def bandWord (x : (⟨2, ![4096, 1025]⟩ : Shape).Idx → EReal) (n : Fin 4096) : BitVec 32 :=
  Ideal.fptosi 32 (x (ix2 n ⟨1024, by omega⟩))

/-- The band of row `n` as one of 8. -/
def band (x : (⟨2, ![4096, 1025]⟩ : Shape).Idx → EReal) (n : Fin 4096) : Fin 8 :=
  ⟨(bandWord x n).toNat % 8, Nat.mod_lt _ (by omega)⟩

/-- Every row names an existing band. -/
def InRange (x : (⟨2, ![4096, 1025]⟩ : Shape).Idx → EReal) : Prop := ∀ n, (bandWord x n).toNat < 8

/-- The hidden activations of row `n`. -/
def hidden (x : (⟨2, ![4096, 1025]⟩ : Shape).Idx → EReal) (W1 : (⟨2, ![1024, 1024]⟩ : Shape).Idx → EReal)
    (b1 : (⟨1, ![1024]⟩ : Shape).Idx → EReal) (A1 : (⟨3, ![8, 1024, 8]⟩ : Shape).Idx → EReal)
    (B1 : (⟨3, ![8, 8, 1024]⟩ : Shape).Idx → EReal) (n : Fin 4096) (h : Fin 1024) : EReal :=
  gelu (layer (feats x n) W1 b1 A1 B1 (band x n) h)

/-- The result at row `n`, column `o`. -/
def mlp (x : (⟨2, ![4096, 1025]⟩ : Shape).Idx → EReal) (W1 : (⟨2, ![1024, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (A1 : (⟨3, ![8, 1024, 8]⟩ : Shape).Idx → EReal)
    (B1 : (⟨3, ![8, 8, 1024]⟩ : Shape).Idx → EReal) (A2 : (⟨3, ![8, 1024, 8]⟩ : Shape).Idx → EReal)
    (B2 : (⟨3, ![8, 8, 1024]⟩ : Shape).Idx → EReal) (n : Fin 4096) (o : Fin 1024) : EReal :=
  layer (hidden x W1 b1 A1 B1 n) W2 b2 A2 B2 (band x n) o

/-! ## The masked sum -/

/-- The band of a stacked row. -/
def bandPart (q : Fin 64) : Fin 8 := ⟨q.val / 8, by omega⟩
/-- The rank of a stacked row. -/
def rankPart (q : Fin 64) : Fin 8 := ⟨q.val % 8, by omega⟩

/-- A sum over the 64 stacked rows is the double sum over bands and ranks. -/
theorem sum_stacked (f : Fin 8 → Fin 8 → EReal) :
    ∑ q : Fin 64, f (bandPart q) (rankPart q) = ∑ e : Fin 8, ∑ r : Fin 8, f e r := by
  rw [← Fintype.sum_prod_type' f]
  refine Fintype.sum_equiv (finProdFinEquiv (m := 8) (n := 8)).symm _ _ fun q => ?_
  rfl

/-- Each stacked row weighted by whether its band is `g`: what remains of the sum is band `g`'s ranks. A masked row
    contributes `(u · 0) · b = 0` whatever extended reals `u` and `b` are. -/
theorem sum_masked (u b : Fin 8 → Fin 8 → EReal) (g : Fin 8) :
    ∑ q : Fin 64, (u (bandPart q) (rankPart q) * if bandPart q = g then 1 else 0) * b (bandPart q) (rankPart q)
      = ∑ r : Fin 8, u g r * b g r := by
  rw [sum_stacked fun e r => (u e r * if e = g then 1 else 0) * b e r,
    Finset.sum_eq_single g (fun e _ he => Finset.sum_eq_zero fun r _ => by rw [if_neg he, mul_zero, zero_mul])
      (fun h => absurd (Finset.mem_univ g) h)]
  exact Finset.sum_congr rfl fun r _ => by rw [if_pos rfl, mul_one]

/-! ## GELU -/

/-- The reference's spelling, `(z/2) · erfc (-z / √2)`, is the same function: `erfc (-y) = 1 + erf y`, and the
    quotient by the nonzero real `√2` is the product with its reciprocal. -/
theorem gelu_erfc (z : EReal) :
    ((1 / 2 : ℝ) : EReal) * z * Ideal.erfc (Ideal.div (-z) (Ideal.sqrt ((2 : ℝ) : EReal))) = gelu z := by
  rw [Ideal.sqrt_coe, if_neg (by norm_num), Ideal.div_coe (Real.sqrt_pos.mpr (by norm_num)).ne', one_div (Real.sqrt 2), neg_mul,
    Ideal.erfc_neg]
  rfl

/-! ## The band -/

/-- A band word in range, read as a signed integer, is the band. -/
theorem toInt_of_lt {w : BitVec 32} (h : w.toNat < 8) : w.toInt = (w.toNat : ℤ) := by
  rw [BitVec.toInt_eq_toNat_of_lt (by omega)]

/-- A band word in range is the band's word. -/
theorem band_val {x : (⟨2, ![4096, 1025]⟩ : Shape).Idx → EReal} (hx : InRange x) (n : Fin 4096) :
    (band x n).val = (bandWord x n).toNat := Nat.mod_eq_of_lt (hx n)

end Cert.Spec

end
-- ==== Proof.HostArrays.lean ====
/- What the kernel's wrapper lays out before the grid runs: the input transposed, the biases as rows, and each stack of
   eight adapters as one matrix of 64 rows, row `8·g + r` holding rank `r` of band `g`. -/
module

public import proofs.«01_k».proof.Proof.Gen.KernelIdeal.Frame
public import proofs.«01_k».proof.Proof.Spec
public import Idealize.ShloMosaic.Lib.Claim
public import Idealize.ShloMosaic.Lib.Pipeline.Value
public import Idealize.ShloMosaic.Lib.ValueLayout

@[expose] public section

noncomputable section

namespace Cert.KernelIdeal.HostArrays

open Cert.KernelIdeal Cert.KernelIdeal.Gen Cert.Spec
open Idealize.ShloMosaic Idealize.ShloMosaic.TcCoe Idealize.ShloMosaic.ValueIdx Idealize.SL.Sem

/-! ## The layout operations at an index -/

/-- Stacking eight 8 × 1024 matrices: row `q` of the stack is rank `q mod 8` of band `q / 8`. -/
theorem stack_apply (v : FVec Ideal S8x8x1024 .f32) (q : Fin 64) (d : Fin 1024) :
    shapeCast S64x1024 v shapeCasts_S8x8x1024_S64x1024 (ix2 q d) = v (ix3 (bandPart q) (rankPart q) d) :=
  shapeCast_apply v shapeCasts_S8x8x1024_S64x1024 (ix2 q d) (ix3 (bandPart q) (rankPart q) d) (by
    rw [Shape.rowMajor_val_three, Shape.rowMajor_val_two]
    show ((q.val / 8) * 8 + q.val % 8) * 1024 + d.val = q.val * 1024 + d.val
    omega)

/-- Exchanging the last two axes of a stack of adapters. -/
theorem swap_apply (v : FVec Ideal S8x1024x8 .f32) (g r : Fin 8) (d : Fin 1024) :
    transpose S8x8x1024 [0, 2, 1] v transposes_S8x1024x8_S8x8x1024_0_2_1 (ix3 g r d) = v (ix3 g d r) :=
  transpose_apply [0, 2, 1] v transposes_S8x1024x8_S8x8x1024_0_2_1 (ix3 g r d) (ix3 g d r) (fun b => match b with
    | ⟨0, _⟩ => rfl
    | ⟨1, _⟩ => rfl
    | ⟨2, _⟩ => rfl)

/-- Transposing the input. -/
theorem flip_apply (v : FVec Ideal S4096x1025 .f32) (n : Fin 4096) (k : Fin 1025) :
    transpose S1025x4096 [1, 0] v transposes_S4096x1025_S1025x4096_1_0 (ix2 k n) = v (ix2 n k) :=
  transpose_apply [1, 0] v transposes_S4096x1025_S1025x4096_1_0 (ix2 k n) (ix2 n k) (fun b => match b with
    | ⟨0, _⟩ => rfl
    | ⟨1, _⟩ => rfl)

/-- A bias laid out as one row. -/
theorem row_apply (v : FVec Ideal S1024 .f32) (o : Fin 1024) :
    shapeCast S1x1024 v shapeCasts_S1024_S1x1024 (ix2 (0 : Fin 1) o) = v (ix1 o) :=
  shapeCast_a_1a_apply v shapeCasts_S1024_S1x1024 (0 : Fin 1) o

/-! ## The arrays the grid finds -/

variable (m : (ℓ : Loc nD τ sig) → Buf (Elt Ideal) ℓ)

/-- The transposed input. -/
theorem input_apply (c : Dev nD) (n : Fin 4096) (k : Fin 1025) :
    V m c main_call0_v8 (ix2 k n) = m ((c : Thread nD τ).loc main_arg0) (ix2 n k) := by
  have e : V m c main_call0_v8 = transpose S1025x4096 [1, 0] (m ((c : Thread nD τ).loc main_arg0))
      transposes_S4096x1025_S1025x4096_1_0 := by
    unfold V; after_results; rfl
  rw [e]; exact flip_apply _ n k

/-- The first bias as a row. -/
theorem bias1_apply (c : Dev nD) (o : Fin 1024) :
    V m c main_call0_v6 (ix2 (0 : Fin 1) o) = m ((c : Thread nD τ).loc main_arg2) (ix1 o) := by
  have e : V m c main_call0_v6 = shapeCast S1x1024 (m ((c : Thread nD τ).loc main_arg2)) shapeCasts_S1024_S1x1024 := by
    unfold V; after_results; rfl
  rw [e]; exact row_apply _ o

/-- The second bias as a row. -/
theorem bias2_apply (c : Dev nD) (o : Fin 1024) :
    V m c main_call0_v7 (ix2 (0 : Fin 1) o) = m ((c : Thread nD τ).loc main_arg4) (ix1 o) := by
  have e : V m c main_call0_v7 = shapeCast S1x1024 (m ((c : Thread nD τ).loc main_arg4)) shapeCasts_S1024_S1x1024 := by
    unfold V; after_results; rfl
  rw [e]; exact row_apply _ o

/-- The first layer's down-projections, stacked. -/
theorem downs1_apply (c : Dev nD) (q : Fin 64) (d : Fin 1024) :
    V m c main_call0_v1 (ix2 q d) = m ((c : Thread nD τ).loc main_arg5) (ix3 (bandPart q) d (rankPart q)) := by
  have e : V m c main_call0_v1 = shapeCast S64x1024 (transpose S8x8x1024 [0, 2, 1] (m ((c : Thread nD τ).loc main_arg5))
      transposes_S8x1024x8_S8x8x1024_0_2_1) shapeCasts_S8x8x1024_S64x1024 := by
    unfold V; after_results; rfl
  rw [e]; exact (stack_apply _ q d).trans (swap_apply _ _ _ d)

/-- The first layer's up-projections, stacked. -/
theorem ups1_apply (c : Dev nD) (q : Fin 64) (o : Fin 1024) :
    V m c main_call0_v2 (ix2 q o) = m ((c : Thread nD τ).loc main_arg6) (ix3 (bandPart q) (rankPart q) o) := by
  have e : V m c main_call0_v2 = shapeCast S64x1024 (m ((c : Thread nD τ).loc main_arg6)) shapeCasts_S8x8x1024_S64x1024 := by
    unfold V; after_results; rfl
  rw [e]; exact stack_apply _ q o

/-- The second layer's down-projections, stacked. -/
theorem downs2_apply (c : Dev nD) (q : Fin 64) (d : Fin 1024) :
    V m c main_call0_v4 (ix2 q d) = m ((c : Thread nD τ).loc main_arg7) (ix3 (bandPart q) d (rankPart q)) := by
  have e : V m c main_call0_v4 = shapeCast S64x1024 (transpose S8x8x1024 [0, 2, 1] (m ((c : Thread nD τ).loc main_arg7))
      transposes_S8x1024x8_S8x8x1024_0_2_1) shapeCasts_S8x8x1024_S64x1024 := by
    unfold V; after_results; rfl
  rw [e]; exact (stack_apply _ q d).trans (swap_apply _ _ _ d)

/-- The second layer's up-projections, stacked. -/
theorem ups2_apply (c : Dev nD) (q : Fin 64) (o : Fin 1024) :
    V m c main_call0_v5 (ix2 q o) = m ((c : Thread nD τ).loc main_arg8) (ix3 (bandPart q) (rankPart q) o) := by
  have e : V m c main_call0_v5 = shapeCast S64x1024 (m ((c : Thread nD τ).loc main_arg8)) shapeCasts_S8x8x1024_S64x1024 := by
    unfold V; after_results; rfl
  rw [e]; exact stack_apply _ q o

end Cert.KernelIdeal.HostArrays

end
-- ==== Proof.Dots.lean ====
/- The kernel's five matrix products at the extended reals, each read at one output index as a plain sum of products.
   Every product accumulates into zeros and contracts one axis. -/
module

public import proofs.«01_k».proof.Proof.Gen.KernelIdeal.Skeleton
public import Idealize.ShloMosaic.Lib.ValueIdx
public import Idealize.ShloMosaic.PureOps.Ideal.Laws

@[expose] public section

noncomputable section

namespace Cert.KernelIdeal.Dots

open Cert.KernelIdeal Cert.KernelIdeal.Gen Idealize.ShloMosaic Idealize.ShloMosaic.ValueIdx

/-- A one-axis contraction into zeros is the sum over that axis, given what each operand is at the dot's indices. -/
theorem sum_of_coords {sl sr so : Shape} (D : DotDims sl sr so) (n : Nat) (hr : D.contr.rank = 1)
    (hs : D.contr.size ⟨0, by omega⟩ = n) (l : FVec Ideal sl .f32) (r : FVec Ideal sr .f32) (j : so.Idx)
    (li : Fin n → sl.Idx) (ri : Fin n → sr.Idx)
    (hl : ∀ (q : D.contr.Idx) (k : Fin n), (q ⟨0, by omega⟩).val = k.val → D.lhsIdx j q = li k)
    (hrr : ∀ (q : D.contr.Idx) (k : Fin n), (q ⟨0, by omega⟩).val = k.val → D.rhsIdx j q = ri k) :
    matmul D none l r (constant so .f32 0x00000000#32) j = ∑ k : Fin n, l (li k) * r (ri k) := by
  simp only [matmul]
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

/-- Stacked down-projection (64 × 1024) times the transposed feature block (feature × row). -/
theorem stack_feats (l : FVec Ideal S64x1024 .f32) (r : FVec Ideal S1024x1024 .f32) (i : Fin 64) (j : Fin 1024) :
    matmul dot_S64x1024_S1024x1024_S64x1024_1_0_0_1_n_n none l r (constant S64x1024 .f32 0x00000000#32) (ix2 i j)
      = ∑ k : Fin 1024, l (ix2 i k) * r (ix2 k j) := by
  refine sum_of_coords dot_S64x1024_S1024x1024_S64x1024_1_0_0_1_n_n 1024 rfl rfl l r (ix2 i j)
    (fun k => ix2 i k) (fun k => ix2 k j) (fun q k hk => ?_) (fun q k hk => ?_)
  · refine funext fun a => Fin.ext ?_
    match a with
    | ⟨0, _⟩ =>
      show (dot_S64x1024_S1024x1024_S64x1024_1_0_0_1_n_n.lhsIdx _ q 0).val = _
      unfold DotDims.lhsIdx
      rw [dif_neg (show ¬(0 : Fin S64x1024.rank) ∈ dot_S64x1024_S1024x1024_S64x1024_1_0_0_1_n_n.lhsBatch by decide),
        dif_pos (show (0 : Fin S64x1024.rank) ∈ dot_S64x1024_S1024x1024_S64x1024_1_0_0_1_n_n.lhsNonContracting by decide)]
      rfl
    | ⟨1, _⟩ => exact (dot_S64x1024_S1024x1024_S64x1024_1_0_0_1_n_n.lhsIdx_val_of_single rfl _ q).trans hk
  · refine funext fun a => Fin.ext ?_
    match a with
    | ⟨0, _⟩ => exact (dot_S64x1024_S1024x1024_S64x1024_1_0_0_1_n_n.rhsIdx_val_of_single rfl _ q).trans hk
    | ⟨1, _⟩ =>
      show (dot_S64x1024_S1024x1024_S64x1024_1_0_0_1_n_n.rhsIdx _ q 1).val = _
      unfold DotDims.rhsIdx
      rw [dif_neg (show ¬(1 : Fin S1024x1024.rank) ∈ dot_S64x1024_S1024x1024_S64x1024_1_0_0_1_n_n.rhsBatch by decide),
        dif_pos (show (1 : Fin S1024x1024.rank) ∈ dot_S64x1024_S1024x1024_S64x1024_1_0_0_1_n_n.rhsNonContracting by decide)]
      rfl

/-- Transposed feature block (feature × row) times the weights (output × feature), giving row × output. -/
theorem feats_weights (l : FVec Ideal S1024x1024 .f32) (r : FVec Ideal S1024x1024 .f32) (i : Fin 1024) (j : Fin 1024) :
    matmul dot_S1024x1024_S1024x1024_S1024x1024_0_1_1_0_n_n none l r (constant S1024x1024 .f32 0x00000000#32) (ix2 i j)
      = ∑ k : Fin 1024, l (ix2 k i) * r (ix2 j k) := by
  refine sum_of_coords dot_S1024x1024_S1024x1024_S1024x1024_0_1_1_0_n_n 1024 rfl rfl l r (ix2 i j)
    (fun k => ix2 k i) (fun k => ix2 j k) (fun q k hk => ?_) (fun q k hk => ?_)
  · refine funext fun a => Fin.ext ?_
    match a with
    | ⟨0, _⟩ => exact (dot_S1024x1024_S1024x1024_S1024x1024_0_1_1_0_n_n.lhsIdx_val_of_single rfl _ q).trans hk
    | ⟨1, _⟩ =>
      show (dot_S1024x1024_S1024x1024_S1024x1024_0_1_1_0_n_n.lhsIdx _ q 1).val = _
      unfold DotDims.lhsIdx
      rw [dif_neg (show ¬(1 : Fin S1024x1024.rank) ∈ dot_S1024x1024_S1024x1024_S1024x1024_0_1_1_0_n_n.lhsBatch by decide),
        dif_pos (show (1 : Fin S1024x1024.rank) ∈ dot_S1024x1024_S1024x1024_S1024x1024_0_1_1_0_n_n.lhsNonContracting by decide)]
      rfl
  · refine funext fun a => Fin.ext ?_
    match a with
    | ⟨0, _⟩ =>
      show (dot_S1024x1024_S1024x1024_S1024x1024_0_1_1_0_n_n.rhsIdx _ q 0).val = _
      unfold DotDims.rhsIdx
      rw [dif_neg (show ¬(0 : Fin S1024x1024.rank) ∈ dot_S1024x1024_S1024x1024_S1024x1024_0_1_1_0_n_n.rhsBatch by decide),
        dif_pos (show (0 : Fin S1024x1024.rank) ∈ dot_S1024x1024_S1024x1024_S1024x1024_0_1_1_0_n_n.rhsNonContracting by decide)]
      rfl
    | ⟨1, _⟩ => exact (dot_S1024x1024_S1024x1024_S1024x1024_0_1_1_0_n_n.rhsIdx_val_of_single rfl _ q).trans hk

/-- Rank coordinates (64 × row) times the stacked up-projection (64 × output), giving row × output. -/
theorem ranks_up (l : FVec Ideal S64x1024 .f32) (r : FVec Ideal S64x1024 .f32) (i : Fin 1024) (j : Fin 1024) :
    matmul dot_S64x1024_S64x1024_S1024x1024_0_0_1_1_n_n none l r (constant S1024x1024 .f32 0x00000000#32) (ix2 i j)
      = ∑ k : Fin 64, l (ix2 k i) * r (ix2 k j) := by
  refine sum_of_coords dot_S64x1024_S64x1024_S1024x1024_0_0_1_1_n_n 64 rfl rfl l r (ix2 i j)
    (fun k => ix2 k i) (fun k => ix2 k j) (fun q k hk => ?_) (fun q k hk => ?_)
  · refine funext fun a => Fin.ext ?_
    match a with
    | ⟨0, _⟩ => exact (dot_S64x1024_S64x1024_S1024x1024_0_0_1_1_n_n.lhsIdx_val_of_single rfl _ q).trans hk
    | ⟨1, _⟩ =>
      show (dot_S64x1024_S64x1024_S1024x1024_0_0_1_1_n_n.lhsIdx _ q 1).val = _
      unfold DotDims.lhsIdx
      rw [dif_neg (show ¬(1 : Fin S64x1024.rank) ∈ dot_S64x1024_S64x1024_S1024x1024_0_0_1_1_n_n.lhsBatch by decide),
        dif_pos (show (1 : Fin S64x1024.rank) ∈ dot_S64x1024_S64x1024_S1024x1024_0_0_1_1_n_n.lhsNonContracting by decide)]
      rfl
  · refine funext fun a => Fin.ext ?_
    match a with
    | ⟨0, _⟩ => exact (dot_S64x1024_S64x1024_S1024x1024_0_0_1_1_n_n.rhsIdx_val_of_single rfl _ q).trans hk
    | ⟨1, _⟩ =>
      show (dot_S64x1024_S64x1024_S1024x1024_0_0_1_1_n_n.rhsIdx _ q 1).val = _
      unfold DotDims.rhsIdx
      rw [dif_neg (show ¬(1 : Fin S64x1024.rank) ∈ dot_S64x1024_S64x1024_S1024x1024_0_0_1_1_n_n.rhsBatch by decide),
        dif_pos (show (1 : Fin S64x1024.rank) ∈ dot_S64x1024_S64x1024_S1024x1024_0_0_1_1_n_n.rhsNonContracting by decide)]
      rfl

/-- Stacked down-projection (64 × 1024) times the hidden block (row × hidden), giving 64 × row. -/
theorem stack_hidden (l : FVec Ideal S64x1024 .f32) (r : FVec Ideal S1024x1024 .f32) (i : Fin 64) (j : Fin 1024) :
    matmul dot_S64x1024_S1024x1024_S64x1024_1_1_0_0_n_n none l r (constant S64x1024 .f32 0x00000000#32) (ix2 i j)
      = ∑ k : Fin 1024, l (ix2 i k) * r (ix2 j k) := by
  refine sum_of_coords dot_S64x1024_S1024x1024_S64x1024_1_1_0_0_n_n 1024 rfl rfl l r (ix2 i j)
    (fun k => ix2 i k) (fun k => ix2 j k) (fun q k hk => ?_) (fun q k hk => ?_)
  · refine funext fun a => Fin.ext ?_
    match a with
    | ⟨0, _⟩ =>
      show (dot_S64x1024_S1024x1024_S64x1024_1_1_0_0_n_n.lhsIdx _ q 0).val = _
      unfold DotDims.lhsIdx
      rw [dif_neg (show ¬(0 : Fin S64x1024.rank) ∈ dot_S64x1024_S1024x1024_S64x1024_1_1_0_0_n_n.lhsBatch by decide),
        dif_pos (show (0 : Fin S64x1024.rank) ∈ dot_S64x1024_S1024x1024_S64x1024_1_1_0_0_n_n.lhsNonContracting by decide)]
      rfl
    | ⟨1, _⟩ => exact (dot_S64x1024_S1024x1024_S64x1024_1_1_0_0_n_n.lhsIdx_val_of_single rfl _ q).trans hk
  · refine funext fun a => Fin.ext ?_
    match a with
    | ⟨0, _⟩ =>
      show (dot_S64x1024_S1024x1024_S64x1024_1_1_0_0_n_n.rhsIdx _ q 0).val = _
      unfold DotDims.rhsIdx
      rw [dif_neg (show ¬(0 : Fin S1024x1024.rank) ∈ dot_S64x1024_S1024x1024_S64x1024_1_1_0_0_n_n.rhsBatch by decide),
        dif_pos (show (0 : Fin S1024x1024.rank) ∈ dot_S64x1024_S1024x1024_S64x1024_1_1_0_0_n_n.rhsNonContracting by decide)]
      rfl
    | ⟨1, _⟩ => exact (dot_S64x1024_S1024x1024_S64x1024_1_1_0_0_n_n.rhsIdx_val_of_single rfl _ q).trans hk

/-- Hidden block (row × hidden) times the weights (output × hidden), giving row × output. -/
theorem hidden_weights (l : FVec Ideal S1024x1024 .f32) (r : FVec Ideal S1024x1024 .f32) (i : Fin 1024) (j : Fin 1024) :
    matmul dot_S1024x1024_S1024x1024_S1024x1024_1_1_0_0_n_n none l r (constant S1024x1024 .f32 0x00000000#32) (ix2 i j)
      = ∑ k : Fin 1024, l (ix2 i k) * r (ix2 j k) := by
  refine sum_of_coords dot_S1024x1024_S1024x1024_S1024x1024_1_1_0_0_n_n 1024 rfl rfl l r (ix2 i j)
    (fun k => ix2 i k) (fun k => ix2 j k) (fun q k hk => ?_) (fun q k hk => ?_)
  · refine funext fun a => Fin.ext ?_
    match a with
    | ⟨0, _⟩ =>
      show (dot_S1024x1024_S1024x1024_S1024x1024_1_1_0_0_n_n.lhsIdx _ q 0).val = _
      unfold DotDims.lhsIdx
      rw [dif_neg (show ¬(0 : Fin S1024x1024.rank) ∈ dot_S1024x1024_S1024x1024_S1024x1024_1_1_0_0_n_n.lhsBatch by decide),
        dif_pos (show (0 : Fin S1024x1024.rank) ∈ dot_S1024x1024_S1024x1024_S1024x1024_1_1_0_0_n_n.lhsNonContracting by decide)]
      rfl
    | ⟨1, _⟩ => exact (dot_S1024x1024_S1024x1024_S1024x1024_1_1_0_0_n_n.lhsIdx_val_of_single rfl _ q).trans hk
  · refine funext fun a => Fin.ext ?_
    match a with
    | ⟨0, _⟩ =>
      show (dot_S1024x1024_S1024x1024_S1024x1024_1_1_0_0_n_n.rhsIdx _ q 0).val = _
      unfold DotDims.rhsIdx
      rw [dif_neg (show ¬(0 : Fin S1024x1024.rank) ∈ dot_S1024x1024_S1024x1024_S1024x1024_1_1_0_0_n_n.rhsBatch by decide),
        dif_pos (show (0 : Fin S1024x1024.rank) ∈ dot_S1024x1024_S1024x1024_S1024x1024_1_1_0_0_n_n.rhsNonContracting by decide)]
      rfl
    | ⟨1, _⟩ => exact (dot_S1024x1024_S1024x1024_S1024x1024_1_1_0_0_n_n.rhsIdx_val_of_single rfl _ q).trans hk

end Cert.KernelIdeal.Dots

end
-- ==== Proof.Consts.lean ====
/- The float constants of the two programs, as the extended reals they denote at `Ideal`, and the named constant.
   `Ideal.ofBits` is unfolded in this module only. -/
module

public import proofs.«01_k».proof.Defs
public import Idealize.ShloMosaic.PureOps.Ideal
public import Idealize.ShloMosaic.PureOps.IdealRules

@[expose] public section

noncomputable section

namespace Cert.Consts

open Idealize.ShloMosaic

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `1.0` denotes 1. -/
theorem ofBits_one : Ideal.ofBits .f32 0x3F800000#32 = (1 : EReal) := by
  rw [← EReal.coe_one]
  simp [Ideal.ofBits, Ideal.ieee, -EReal.coe_mul]; norm_num

/-- The kernel's literal 0.70710677, named, denotes the real `1/√2`. -/
theorem inv_sqrt2 :
    Named.named (F := Ideal) Cert.KernelIdeal.κ "inv_sqrt2" (φ := .f32) 0x3F3504F3#32 = (((Real.sqrt 2)⁻¹ : ℝ) : EReal) :=
  IdealRules.named_const.ideal_named_scalar _ _ _ _ rfl

end Cert.Consts

end
-- ==== Proof.Block.lean ====
/- One grid step of the kernel, read at one entry of its output block: the perceptron's output for that row, given what
   the step's input blocks hold. -/
module

public import proofs.«01_k».proof.Proof.Gen.KernelIdeal.Frame
public import proofs.«01_k».proof.Proof.Dots
public import proofs.«01_k».proof.Proof.Consts
public import proofs.«01_k».proof.Proof.Spec
public import Idealize.ShloMosaic.Lib.Pipeline.Value

@[expose] public section

noncomputable section

namespace Cert.KernelIdeal.Block

open Cert.KernelIdeal Cert.KernelIdeal.Gen Cert.KernelIdeal.Dots Cert.Spec
open Idealize.ShloMosaic Idealize.ShloMosaic.ValueIdx

/-! ## The mask -/

/-- The kernel's floor division of a stacked row number by 8 (truncating division, less one where signs differ and a
    remainder is left) is the row's band. -/
theorem floordiv (q : Fin 64) :
    Scalar.select
      (IntOp.andi
        (IntOp.cmpi .ne
          (IntOp.subi ((IntOp.cmpi .sgt (BitVec.ofNat 32 q.val) 0#32).setWidth 32)
            ((IntOp.cmpi .slt (BitVec.ofNat 32 q.val) 0#32).setWidth 32))
          (Scalar.subi (Scalar.extui (Scalar.cmpi .sgt 8#32 0#32)) (Scalar.extui (Scalar.cmpi .slt 8#32 0#32))))
        (IntOp.cmpi .ne (IntOp.remsi .vector (BitVec.ofNat 32 q.val) 8#32) 0#32))
      (IntOp.subi (IntOp.divsi .vector (BitVec.ofNat 32 q.val) 8#32) 1#32)
      (IntOp.divsi .vector (BitVec.ofNat 32 q.val) 8#32)
    = BitVec.ofNat 32 (bandPart q).val := by
  revert q; decide +kernel

/-- The comparison bit, widened and converted to a float, is 1 or 0. -/
theorem bit_val (a b : BitVec 32) :
    FloatOps.sitofp (F := Ideal) .f32 ((IntOp.cmpi .eq a b).setWidth 32) = if a = b then (1 : EReal) else 0 := by
  by_cases h : a = b
  · subst h
    have : IntOp.cmpi .eq a a = 1#1 := by simp [IntOp.cmpi]
    rw [this, if_pos rfl]
    show (((BitVec.setWidth 32 1#1).toInt : ℝ) : EReal) = 1
    rw [show (BitVec.setWidth 32 1#1).toInt = 1 by decide]; simp
  · have : IntOp.cmpi .eq a b = 0#1 := by
      show BitVec.ofBool (a == b) = 0#1
      rw [beq_eq_false_iff_ne.mpr h]; rfl
    rw [this, if_neg h]
    show (((BitVec.setWidth 32 0#1).toInt : ℝ) : EReal) = 0
    rw [show (BitVec.setWidth 32 0#1).toInt = 0 by decide]; simp

theorem pay2_eq (v0 : FVec Ideal S1025x1024 .f32) : k0_pay2 (F := Ideal) v0 = v0 := shapeCast_self _ _

/-- The mask at stacked row `q` and column `j`: 1 where `q`'s band is the band word of the block's last row there. -/
theorem pay4_word (v0 : FVec Ideal S1025x1024 .f32) (q : Fin 64) (j : Fin 1024) :
    k0_pay4 (F := Ideal) v0 (ix2 q j)
      = if BitVec.ofNat 32 (bandPart q).val = Ideal.fptosi 32 (v0 (ix2 ⟨1024, by omega⟩ j)) then (1 : EReal) else 0 := by
  rw [← bit_val, ← floordiv q]
  unfold k0_pay4
  rw [pay2_eq]
  have hi : iota .tc S64x1024 32 [0] iota_S64x1024_d0_w32 (ix2 q j) = BitVec.ofNat 32 q.val :=
    iota_single_apply .tc S64x1024 32 0 iota_S64x1024_d0_w32 (ix2 q j)
  have hb : broadcastTo S64x1024
      (fptosi (F := Ideal) 32 (extractStridedSlice S1x1024 ![1024, 0] v0 slices_S1025x1024_o1024_0_S1x1024))
      broadcasts_S1x1024_S64x1024 (ix2 q j) = Ideal.fptosi 32 (v0 (ix2 ⟨1024, by omega⟩ j)) := by
    rw [broadcastTo_apply _ broadcasts_S1x1024_S64x1024 (ix2 q j) (ix2 (0 : Fin 1) j) (fun a => match a with
      | ⟨0, _⟩ => rfl
      | ⟨1, _⟩ => rfl)]
    exact congrArg (Ideal.fptosi 32) (extractStridedSlice_apply ![1024, 0] v0 slices_S1025x1024_o1024_0_S1x1024
      (ix2 (0 : Fin 1) j) (ix2 ⟨1024, by omega⟩ j) (fun a => match a with
      | ⟨0, _⟩ => rfl
      | ⟨1, _⟩ => (Nat.zero_add _).symm))
  rw [← hi, ← hb]
  rfl

/-- The feature rows of the block. -/
theorem pay3_apply (v0 : FVec Ideal S1025x1024 .f32) (d j : Fin 1024) :
    k0_pay3 (F := Ideal) v0 (ix2 d j) = v0 (ix2 ⟨d.val, by omega⟩ j) := by
  unfold k0_pay3
  rw [pay2_eq]
  exact extractStridedSlice_apply ![0, 0] v0 slices_S1025x1024_o0_0_S1024x1024 (ix2 d j) (ix2 ⟨d.val, by omega⟩ j)
    (fun a => match a with
      | ⟨0, _⟩ => (Nat.zero_add _).symm
      | ⟨1, _⟩ => (Nat.zero_add _).symm)

/-! ## The block's input arrays -/

/-- What column `j` of a step's blocks holds, for row `n` of the arrays: the transposed row, the weights, the biases as
    one row, and the two adapters stacked by (band, rank). -/
structure Holds (x : FVec Ideal S4096x1025 .f32) (W1 : FVec Ideal S1024x1024 .f32) (b1 : FVec Ideal S1024 .f32)
    (W2 : FVec Ideal S1024x1024 .f32) (b2 : FVec Ideal S1024 .f32) (A1 : FVec Ideal S8x1024x8 .f32)
    (B1 : FVec Ideal S8x8x1024 .f32) (A2 : FVec Ideal S8x1024x8 .f32) (B2 : FVec Ideal S8x8x1024 .f32) (n : Fin 4096)
    (j : Fin 1024) (x0 : FVec Ideal S1025x1024 .f32) (x1 : FVec Ideal S1024x1024 .f32) (x2 : FVec Ideal S1x1024 .f32)
    (x3 : FVec Ideal S1024x1024 .f32) (x4 : FVec Ideal S1x1024 .f32) (x5 x6 x7 x8 : FVec Ideal S64x1024 .f32) : Prop where
  h0 : ∀ c : Fin 1025, x0 (ix2 c j) = x (ix2 n c)
  h1 : x1 = W1
  h2 : ∀ o : Fin 1024, x2 (ix2 (0 : Fin 1) o) = b1 (ix1 o)
  h3 : x3 = W2
  h4 : ∀ o : Fin 1024, x4 (ix2 (0 : Fin 1) o) = b2 (ix1 o)
  h5 : ∀ (q : Fin 64) (d : Fin 1024), x5 (ix2 q d) = A1 (ix3 (bandPart q) d (rankPart q))
  h6 : ∀ (q : Fin 64) (o : Fin 1024), x6 (ix2 q o) = B1 (ix3 (bandPart q) (rankPart q) o)
  h7 : ∀ (q : Fin 64) (d : Fin 1024), x7 (ix2 q d) = A2 (ix3 (bandPart q) d (rankPart q))
  h8 : ∀ (q : Fin 64) (o : Fin 1024), x8 (ix2 q o) = B2 (ix3 (bandPart q) (rankPart q) o)

/-! ## The stages of a step -/

/-- A bias row broadcast down the block. -/
theorem bias_apply (v : FVec Ideal S1x1024 .f32) (j o : Fin 1024) :
    broadcastTo S1024x1024 v broadcasts_S1x1024_S1024x1024 (ix2 j o) = v (ix2 (0 : Fin 1) o) :=
  broadcastTo_apply v broadcasts_S1x1024_S1024x1024 (ix2 j o) (ix2 (0 : Fin 1) o) (fun a => match a with
    | ⟨0, _⟩ => rfl
    | ⟨1, _⟩ => rfl)

/-- The mask at column `j` is 1 exactly on the band of row `n`. -/
theorem mask_apply {x : FVec Ideal S4096x1025 .f32} (hx : InRange x) {x0 : FVec Ideal S1025x1024 .f32} {n : Fin 4096}
    {j : Fin 1024} (h0 : ∀ c : Fin 1025, x0 (ix2 c j) = x (ix2 n c)) (q : Fin 64) :
    k0_pay4 (F := Ideal) x0 (ix2 q j) = if bandPart q = band x n then (1 : EReal) else 0 := by
  rw [pay4_word, h0]
  refine if_congr ?_ rfl rfl
  show BitVec.ofNat 32 (bandPart q).val = bandWord x n ↔ _
  have hn := hx n
  have hv := band_val hx n
  have hq := (bandPart q).isLt
  constructor
  · intro h
    refine Fin.ext ?_
    rw [hv, ← h, BitVec.toNat_ofNat, Nat.mod_eq_of_lt (by omega)]
  · intro h
    refine BitVec.eq_of_toNat_eq ?_
    rw [BitVec.toNat_ofNat, Nat.mod_eq_of_lt (by omega), h, hv]

/-- The masked rank coordinates of the first layer. -/
theorem pay5_apply {x : FVec Ideal S4096x1025 .f32} (hx : InRange x) {x0 : FVec Ideal S1025x1024 .f32} {n : Fin 4096}
    {j : Fin 1024} (h0 : ∀ c : Fin 1025, x0 (ix2 c j) = x (ix2 n c)) {A1 : FVec Ideal S8x1024x8 .f32}
    {x5 : FVec Ideal S64x1024 .f32}
    (h5 : ∀ (q : Fin 64) (d : Fin 1024), x5 (ix2 q d) = A1 (ix3 (bandPart q) d (rankPart q))) (q : Fin 64) :
    k0_pay5 (F := Ideal) x0 x5 (ix2 q j)
      = down (feats x n) A1 (bandPart q) (rankPart q) * if bandPart q = band x n then (1 : EReal) else 0 := by
  unfold k0_pay5
  rw [mulf_apply, mask_apply hx h0, shapeCast_self, stack_feats]
  refine congrArg (· * _) (Finset.sum_congr rfl fun d _ => ?_)
  rw [h5, pay3_apply, h0, mul_comm]
  rfl

/-- The dense product of the first layer. -/
theorem pay6_apply {x : FVec Ideal S4096x1025 .f32} {x0 : FVec Ideal S1025x1024 .f32} {n : Fin 4096}
    {j : Fin 1024} (h0 : ∀ c : Fin 1025, x0 (ix2 c j) = x (ix2 n c)) (W : FVec Ideal S1024x1024 .f32) (o : Fin 1024) :
    k0_pay6 (F := Ideal) x0 W (ix2 j o) = ∑ d : Fin 1024, feats x n d * W (ix2 o d) := by
  unfold k0_pay6
  rw [feats_weights]
  refine Finset.sum_congr rfl fun d _ => ?_
  rw [pay3_apply, h0]
  rfl

/-- The block before the activation, from the masked rank coordinates, the dense product, the bias row and the stacked
    up-projection. -/
def pre (v37 : FVec Ideal S64x1024 .f32) (v39 : FVec Ideal S1024x1024 .f32) (v41 : FVec Ideal S1x1024 .f32)
    (v44 : FVec Ideal S64x1024 .f32) : FVec Ideal S1024x1024 .f32 :=
  addf (addf v39 (broadcastTo S1024x1024 v41 broadcasts_S1x1024_S1024x1024))
    (mulf (matmul dot_S64x1024_S64x1024_S1024x1024_0_0_1_1_n_n none v37
        (shapeCast S64x1024 v44 shapeCasts_S64x1024_S64x1024) (constant S1024x1024 .f32 0x00000000#32))
      (broadcast S1024x1024 (Scalar.ofBits .f32 0x40000000#32)))

/-- The activation as the kernel spells it. -/
def act (z : FVec Ideal S1024x1024 .f32) : FVec Ideal S1024x1024 .f32 :=
  mulf (mulf (broadcast S1024x1024 (Scalar.ofBits .f32 0x3F000000#32)) z)
    (addf (broadcast S1024x1024 (Scalar.ofBits .f32 0x3F800000#32))
      (erf (mulf z (broadcast S1024x1024 (Named.named κ "inv_sqrt2" 0x3F3504F3#32)))))

/-- The masked rank coordinates of the second layer. -/
def ranks2 (v33 : FVec Ideal S64x1024 .f32) (h : FVec Ideal S1024x1024 .f32) (v58 : FVec Ideal S64x1024 .f32) :
    FVec Ideal S64x1024 .f32 :=
  mulf (matmul dot_S64x1024_S1024x1024_S64x1024_1_1_0_0_n_n none (shapeCast S64x1024 v58 shapeCasts_S64x1024_S64x1024) h
    (constant S64x1024 .f32 0x00000000#32)) v33

/-- The dense product of the second layer. -/
def dense2 (h : FVec Ideal S1024x1024 .f32) (v62 : FVec Ideal S1024x1024 .f32) : FVec Ideal S1024x1024 .f32 :=
  matmul dot_S1024x1024_S1024x1024_S1024x1024_1_1_0_0_n_n none h v62 (constant S1024x1024 .f32 0x00000000#32)

/-- The step's last payload is these stages composed. -/
theorem pay1_eq (v33 v37 : FVec Ideal S64x1024 .f32) (v39 : FVec Ideal S1024x1024 .f32) (v41 : FVec Ideal S1x1024 .f32)
    (v44 v58 : FVec Ideal S64x1024 .f32) (v62 : FVec Ideal S1024x1024 .f32) (v64 : FVec Ideal S1x1024 .f32)
    (v68 : FVec Ideal S64x1024 .f32) :
    k0_pay1 (F := Ideal) v33 v37 v39 v41 v44 v58 v62 v64 v68
      = pre (ranks2 v33 (act (pre v37 v39 v41 v44)) v58) (dense2 (act (pre v37 v39 v41 v44)) v62)
          (shapeCast S1x1024 v64 shapeCasts_S1x1024_S1x1024) v68 := rfl

/-- One layer of the block at an entry, from what its operands are in that row. -/
theorem pre_apply {row : Fin 1024 → EReal} {W : FVec Ideal S1024x1024 .f32} {b : FVec Ideal S1024 .f32}
    {A : FVec Ideal S8x1024x8 .f32} {B : FVec Ideal S8x8x1024 .f32} {g : Fin 8} {j : Fin 1024}
    {u : FVec Ideal S64x1024 .f32} {p : FVec Ideal S1024x1024 .f32} {v : FVec Ideal S1x1024 .f32}
    {w : FVec Ideal S64x1024 .f32}
    (hu : ∀ q : Fin 64, u (ix2 q j) = down row A (bandPart q) (rankPart q) * if bandPart q = g then (1 : EReal) else 0)
    (hp : ∀ o : Fin 1024, p (ix2 j o) = ∑ d : Fin 1024, row d * W (ix2 o d))
    (hv : ∀ o : Fin 1024, v (ix2 (0 : Fin 1) o) = b (ix1 o))
    (hw : ∀ (q : Fin 64) (o : Fin 1024), w (ix2 q o) = B (ix3 (bandPart q) (rankPart q) o)) (o : Fin 1024) :
    pre u p v w (ix2 j o) = layer row W b A B g o := by
  unfold pre
  rw [addf_apply, addf_apply, mulf_apply, bias_apply, hp, hv, shapeCast_self, ranks_up]
  unfold layer dense adapter
  refine congrArg₂ (· + ·) rfl (congrArg₂ (· * ·) ?_ Consts.ofBits_two)
  rw [← sum_masked (fun e r => down row A e r) (fun e r => B (ix3 e r o)) g]
  exact Finset.sum_congr rfl fun q _ => by rw [hu, hw]

/-- The activation at an entry is GELU. -/
theorem act_apply (z : FVec Ideal S1024x1024 .f32) (i : S1024x1024.Idx) : act z i = gelu (z i) := by
  show Ideal.ofBits .f32 0x3F000000#32 * z i * (Ideal.ofBits .f32 0x3F800000#32
    + Ideal.erf (z i * Named.named (F := Ideal) κ "inv_sqrt2" (φ := .f32) 0x3F3504F3#32)) = _
  rw [Consts.ofBits_half, Consts.ofBits_one, Consts.inv_sqrt2]
  rfl

/-- ONE STEP AT AN ENTRY: the output block at (`j`, `o`) is the perceptron at row `n`, output `o`. -/
theorem out_apply {x : FVec Ideal S4096x1025 .f32} {W1 : FVec Ideal S1024x1024 .f32} {b1 : FVec Ideal S1024 .f32}
    {W2 : FVec Ideal S1024x1024 .f32} {b2 : FVec Ideal S1024 .f32} {A1 : FVec Ideal S8x1024x8 .f32}
    {B1 : FVec Ideal S8x8x1024 .f32} {A2 : FVec Ideal S8x1024x8 .f32} {B2 : FVec Ideal S8x8x1024 .f32} {n : Fin 4096}
    {j : Fin 1024} {x0 : FVec Ideal S1025x1024 .f32} {x1 : FVec Ideal S1024x1024 .f32} {x2 : FVec Ideal S1x1024 .f32}
    {x3 : FVec Ideal S1024x1024 .f32} {x4 : FVec Ideal S1x1024 .f32} {x5 x6 x7 x8 : FVec Ideal S64x1024 .f32}
    (hx : InRange x) (H : Holds x W1 b1 W2 b2 A1 B1 A2 B2 n j x0 x1 x2 x3 x4 x5 x6 x7 x8) (o : Fin 1024) :
    out0_9 (F := Ideal) x0 x1 x2 x3 x4 x5 x6 x7 x8 (ix2 j o) = mlp x W1 b1 W2 b2 A1 B1 A2 B2 n o := by
  have z2 : (![0, 0] : Fin 2 → Nat) = fun _ => 0 := by funext a; match a with | ⟨0, _⟩ => rfl | ⟨1, _⟩ => rfl
  have e : out0_9 (F := Ideal) x0 x1 x2 x3 x4 x5 x6 x7 x8
      = k0_pay1 (F := Ideal) (k0_pay4 x0) (k0_pay5 x0 x5) (k0_pay6 x0 x1) (k0_pay7 x2) x6 x7 x3 x4 x8 := by
    unfold out0_9
    rw [View.canon_unit_zero (S := S1024x1024) z2, View.ld_unit_zero (S := S1025x1024) z2, View.ld_unit_zero (S := S1024x1024) z2,
      View.ld_unit_zero (S := S1x1024) z2, View.ld_unit_zero (S := S64x1024) z2, View.ld_unit_zero (S := S1024x1024) z2,
      View.ld_unit_zero (S := S1x1024) z2, View.ld_unit_zero (S := S64x1024) z2, View.ld_unit_zero (S := S64x1024) z2,
      View.ld_unit_zero (S := S64x1024) z2]
  have hact : ∀ h : Fin 1024, act (pre (k0_pay5 x0 x5) (k0_pay6 x0 x1) (k0_pay7 x2) x6) (ix2 j h)
      = hidden x W1 b1 A1 B1 n h := fun h => by
    rw [act_apply]
    refine congrArg gelu (pre_apply (pay5_apply hx H.h0 H.h5) (fun o => ?_) (fun o => ?_) H.h6 h)
    · rw [pay6_apply H.h0, H.h1]
    · unfold k0_pay7
      rw [shapeCast_self, H.h2]
  rw [e, pay1_eq]
  refine pre_apply (fun q => ?_) (fun o => ?_) (fun o => ?_) H.h8 o
  · unfold ranks2
    rw [mulf_apply, mask_apply hx H.h0, shapeCast_self, stack_hidden]
    refine congrArg (· * _) (Finset.sum_congr rfl fun d _ => ?_)
    rw [H.h7, hact, mul_comm]
  · unfold dense2
    rw [hidden_weights, H.h3]
    exact Finset.sum_congr rfl fun d _ => by rw [hact]
  · rw [shapeCast_self, H.h4]

end Cert.KernelIdeal.Block

end
-- ==== Proof.KernelArray.lean ====
/- The kernel's result array after the run: at every row and output, the perceptron's value there. -/
module

public import proofs.«01_k».proof.Proof.Gen.KernelIdeal.Value
public import proofs.«01_k».proof.Proof.HostArrays
public import proofs.«01_k».proof.Proof.Block

@[expose] public section

noncomputable section

namespace Cert.KernelIdeal.KernelArray

open Cert.KernelIdeal Cert.KernelIdeal.Gen Cert.KernelIdeal.HostArrays Cert.KernelIdeal.Block Cert.Spec
open Idealize.ShloMosaic Idealize.ShloMosaic.TcCoe Idealize.ShloMosaic.ValueIdx Idealize.SL.Sem

/-! ## Which block each window shows at a grid step -/

/-- The input moves along its columns with the grid, the output along its rows. -/
theorem idx_moving : ∀ t : Fin cfg0.N, win0_0.index t (0 : Fin 2) = 0 ∧ win0_0.index t (1 : Fin 2) = t.val
    ∧ win0_9.index t (0 : Fin 2) = t.val ∧ win0_9.index t (1 : Fin 2) = 0 :=
  (by decide +kernel : ∀ t : Fin grid0.N, _)

/-- The weights and biases stay where they are. -/
theorem idx_fixed_dense : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- So do the stacked adapters. -/
theorem idx_fixed_stack : ∀ t : Fin cfg0.N, (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row `j` of step `t`'s block, as a row of the whole array. -/
def rowOf (t : Fin cfg0.N) (j : Fin 1024) : Fin 4096 :=
  ⟨t.val * 1024 + j.val, by have h : t.val < 4 := t.isLt; have := j.isLt; omega⟩

theorem emb0 (t : Fin cfg0.N) (k : Fin 1025) (j : Fin 1024) :
    ((cfg0.win 0).blk t).view.emb (ix2 k j) = ix2 k (rowOf t j) := by
  obtain ⟨e0, e1, _, _⟩ := idx_moving t
  funext a; apply Fin.ext
  match a with
  | ⟨0, _⟩ => show win0_0.index t (0 : Fin 2) * 1025 + 1 * k.val = k.val; omega
  | ⟨1, _⟩ => show win0_0.index t (1 : Fin 2) * 1024 + 1 * j.val = t.val * 1024 + j.val; omega

theorem emb9 (t : Fin cfg0.N) (j o : Fin 1024) :
    ((cfg0.win 9).blk t).view.emb (ix2 j o) = ix2 (rowOf t j) o := by
  obtain ⟨_, _, e0, e1⟩ := idx_moving t
  funext a; apply Fin.ext
  match a with
  | ⟨0, _⟩ => show win0_9.index t (0 : Fin 2) * 1024 + 1 * j.val = t.val * 1024 + j.val; omega
  | ⟨1, _⟩ => show win0_9.index t (1 : Fin 2) * 1024 + 1 * o.val = o.val; omega

theorem emb1 (t : Fin cfg0.N) (i : S1024x1024.Idx) : ((cfg0.win 1).blk t).view.emb i = i := by
  obtain ⟨⟨e0, e1⟩, _, _, _⟩ := idx_fixed_dense t
  funext a; apply Fin.ext
  match a with
  | ⟨0, _⟩ => show win0_1.index t (0 : Fin 2) * 1024 + 1 * (i 0).val = (i 0).val; omega
  | ⟨1, _⟩ => show win0_1.index t (1 : Fin 2) * 1024 + 1 * (i 1).val = (i 1).val; omega

theorem emb2 (t : Fin cfg0.N) (i : S1x1024.Idx) : ((cfg0.win 2).blk t).view.emb i = i := by
  obtain ⟨_, ⟨e0, e1⟩, _, _⟩ := idx_fixed_dense t
  funext a; apply Fin.ext
  match a with
  | ⟨0, _⟩ => show win0_2.index t (0 : Fin 2) * 1 + 1 * (i 0).val = (i 0).val; omega
  | ⟨1, _⟩ => show win0_2.index t (1 : Fin 2) * 1024 + 1 * (i 1).val = (i 1).val; omega

theorem emb3 (t : Fin cfg0.N) (i : S1024x1024.Idx) : ((cfg0.win 3).blk t).view.emb i = i := by
  obtain ⟨_, _, ⟨e0, e1⟩, _⟩ := idx_fixed_dense t
  funext a; apply Fin.ext
  match a with
  | ⟨0, _⟩ => show win0_3.index t (0 : Fin 2) * 1024 + 1 * (i 0).val = (i 0).val; omega
  | ⟨1, _⟩ => show win0_3.index t (1 : Fin 2) * 1024 + 1 * (i 1).val = (i 1).val; omega

theorem emb4 (t : Fin cfg0.N) (i : S1x1024.Idx) : ((cfg0.win 4).blk t).view.emb i = i := by
  obtain ⟨_, _, _, ⟨e0, e1⟩⟩ := idx_fixed_dense t
  funext a; apply Fin.ext
  match a with
  | ⟨0, _⟩ => show win0_4.index t (0 : Fin 2) * 1 + 1 * (i 0).val = (i 0).val; omega
  | ⟨1, _⟩ => show win0_4.index t (1 : Fin 2) * 1024 + 1 * (i 1).val = (i 1).val; omega

theorem emb5 (t : Fin cfg0.N) (i : S64x1024.Idx) : ((cfg0.win 5).blk t).view.emb i = i := by
  obtain ⟨⟨e0, e1⟩, _, _, _⟩ := idx_fixed_stack t
  funext a; apply Fin.ext
  match a with
  | ⟨0, _⟩ => show win0_5.index t (0 : Fin 2) * 64 + 1 * (i 0).val = (i 0).val; omega
  | ⟨1, _⟩ => show win0_5.index t (1 : Fin 2) * 1024 + 1 * (i 1).val = (i 1).val; omega

theorem emb6 (t : Fin cfg0.N) (i : S64x1024.Idx) : ((cfg0.win 6).blk t).view.emb i = i := by
  obtain ⟨_, ⟨e0, e1⟩, _, _⟩ := idx_fixed_stack t
  funext a; apply Fin.ext
  match a with
  | ⟨0, _⟩ => show win0_6.index t (0 : Fin 2) * 64 + 1 * (i 0).val = (i 0).val; omega
  | ⟨1, _⟩ => show win0_6.index t (1 : Fin 2) * 1024 + 1 * (i 1).val = (i 1).val; omega

theorem emb7 (t : Fin cfg0.N) (i : S64x1024.Idx) : ((cfg0.win 7).blk t).view.emb i = i := by
  obtain ⟨_, _, ⟨e0, e1⟩, _⟩ := idx_fixed_stack t
  funext a; apply Fin.ext
  match a with
  | ⟨0, _⟩ => show win0_7.index t (0 : Fin 2) * 64 + 1 * (i 0).val = (i 0).val; omega
  | ⟨1, _⟩ => show win0_7.index t (1 : Fin 2) * 1024 + 1 * (i 1).val = (i 1).val; omega

theorem emb8 (t : Fin cfg0.N) (i : S64x1024.Idx) : ((cfg0.win 8).blk t).view.emb i = i := by
  obtain ⟨_, _, _, ⟨e0, e1⟩⟩ := idx_fixed_stack t
  funext a; apply Fin.ext
  match a with
  | ⟨0, _⟩ => show win0_8.index t (0 : Fin 2) * 64 + 1 * (i 0).val = (i 0).val; omega
  | ⟨1, _⟩ => show win0_8.index t (1 : Fin 2) * 1024 + 1 * (i 1).val = (i 1).val; omega

/-! ## What the blocks hold -/

variable (m : (ℓ : Loc nD τ sig) → Buf (Elt Ideal) ℓ)

/-- At step `t` the input blocks hold what row `1024·t + j` of the perceptron needs. -/
theorem holds (c : Dev nD) (t : Fin cfg0.N) (j : Fin 1024) :
    Holds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (rowOf t j) j (iblk m c 0 t) (iblk m c 1 t) (iblk m c 2 t) (iblk m c 3 t) (iblk m c 4 t) (iblk m c 5 t)
      (iblk m c 6 t) (iblk m c 7 t) (iblk m c 8 t) where
  h0 k := by
    show V m c main_call0_v8 (((cfg0.win 0).blk t).view.emb (ix2 k j)) = _
    rw [emb0]; exact input_apply m c _ k
  h1 := by
    funext i
    show V m c main_arg1 (((cfg0.win 1).blk t).view.emb i) = _
    rw [emb1, V_main_arg1]
  h2 o := by
    show V m c main_call0_v6 (((cfg0.win 2).blk t).view.emb (ix2 (0 : Fin 1) o)) = _
    rw [emb2]; exact bias1_apply m c o
  h3 := by
    funext i
    show V m c main_arg3 (((cfg0.win 3).blk t).view.emb i) = _
    rw [emb3, V_main_arg3]
  h4 o := by
    show V m c main_call0_v7 (((cfg0.win 4).blk t).view.emb (ix2 (0 : Fin 1) o)) = _
    rw [emb4]; exact bias2_apply m c o
  h5 q d := by
    show V m c main_call0_v1 (((cfg0.win 5).blk t).view.emb (ix2 q d)) = _
    rw [emb5]; exact downs1_apply m c q d
  h6 q o := by
    show V m c main_call0_v2 (((cfg0.win 6).blk t).view.emb (ix2 q o)) = _
    rw [emb6]; exact ups1_apply m c q o
  h7 q d := by
    show V m c main_call0_v4 (((cfg0.win 7).blk t).view.emb (ix2 q d)) = _
    rw [emb7]; exact downs2_apply m c q d
  h8 q o := by
    show V m c main_call0_v5 (((cfg0.win 8).blk t).view.emb (ix2 q o)) = _
    rw [emb8]; exact ups2_apply m c q o

/-! ## The result array -/

/-- The result array at row `n` and output `o` is the perceptron's value there, the bands being in range. -/
theorem final_apply (c : Dev nD) (hx : InRange (m ((c : Thread nD τ).loc main_arg0))) (n : Fin 4096) (o : Fin 1024) :
    (dats m 0 c).arrAt 9 cfg0.N (ix2 n o)
      = mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) n o := by
  have ht : n.val / 1024 < cfg0.N := by
    show n.val / 1024 < 4
    have := n.isLt; omega
  obtain ⟨t, htn⟩ : ∃ t : Fin cfg0.N, t.val = n.val / 1024 := ⟨⟨_, ht⟩, rfl⟩
  obtain ⟨j, hj⟩ : ∃ j : Fin 1024, j.val = n.val % 1024 := ⟨⟨_, Nat.mod_lt _ (by omega)⟩, rfl⟩
  have hn : n = rowOf t j := by
    apply Fin.ext
    show n.val = t.val * 1024 + j.val
    omega
  have e := congrFun ((Value.blocks9 m c t (flush0_9 t)).trans (Value.flushed9 m c t)) (ix2 j o)
  rw [hn, ← emb9]
  exact e.trans (out_apply hx (holds m c t j) o)

end Cert.KernelIdeal.KernelArray

end
-- ==== Proof.RefTake.lean ====
/- The reference's four lookups of a row's adapter: with every band in range, each gives the band's own matrix. -/
module

public import proofs.«01_k».proof.Proof.Gen.ReferenceIdeal.Read
public import proofs.«01_k».proof.Proof.Spec
public import Idealize.ShloMosaic.Lib.ReduceAll

@[expose] public section

noncomputable section

namespace Cert.ReferenceIdeal.RefTake

open Cert.ReferenceIdeal Cert.ReferenceIdeal.Gen Cert.ReferenceIdeal.Read Cert.Spec
open Idealize.ShloMosaic Idealize.ShloMosaic.ValueIdx

/-! ## The band word and its range checks -/

/-- For a band number the lookup's checks come out as they should: not negative, at least 0, at most 7. -/
theorem checks : ∀ g : Fin 8, IntOp.cmpi .slt (BitVec.ofNat 32 g.val) 0#32 = 0#1
    ∧ IntOp.cmpi .sge (BitVec.ofNat 32 g.val) 0#32 = 1#1 ∧ IntOp.cmpi .sle (BitVec.ofNat 32 g.val) 7#32 = 1#1 := by
  decide

/-- The same of a word known to be below 8. -/
theorem checks_word {w : BitVec 32} (h : w.toNat < 8) : IntOp.cmpi .slt w 0#32 = 0#1
    ∧ IntOp.cmpi .sge w 0#32 = 1#1 ∧ IntOp.cmpi .sle w 7#32 = 1#1 := by
  have e : w = BitVec.ofNat 32 w.toNat := by simp
  have := checks ⟨w.toNat, h⟩
  rw [← e] at this
  exact this

variable {x : FVec Ideal S4096x1025 .f32}

/-- The reference reads each row's band word off the last column. -/
theorem word_apply (n : Fin 4096) : val_main_v3 (F := Ideal) x (ix1 n) = bandWord x n := by
  rw [val_main_v3_apply, val_main_v2_apply, val_main_v1_apply]
  show Ideal.fptosi 32 (x _) = Ideal.fptosi 32 (x _)
  congr 2
  funext a; apply Fin.ext
  match a with
  | ⟨0, _⟩ => show n.val / 1 = n.val; omega
  | ⟨1, _⟩ => rfl

/-- The index that the lookup uses is the band word itself, in range. -/
theorem index_apply (hx : InRange x) (n : Fin 4096) (u : Fin 1) :
    val_main_call0_v5 (F := Ideal) x (ix2 n u) = bandWord x n := by
  have e : idx_main_call0_v5 (ix2 n u) = ix1 n := by funext a; match a with | ⟨0, _⟩ => rfl
  rw [val_main_call0_v5_apply, val_main_call0_v4_apply, val_main_call0_v1_apply, val_main_call0_v0_apply, val_main_call0_c_apply,
    e, word_apply, (checks_word (hx n)).1, select_zero]

/-- The lookup finds every row in range. -/
theorem found (hx : InRange x) (i : S4096.Idx) : val_main_call0_v12 (F := Ideal) x i = 1#1 := by
  unfold val_main_call0_v12
  refine Host.reduce_andi_one _ _ _ _ i rfl fun k => ?_
  obtain ⟨n, u, rfl⟩ : ∃ (n : Fin 4096) (u : Fin 1), k = ix2 n u := ⟨k 0, k 1, eq_ix2 k⟩
  rw [val_main_call0_v11_apply, val_main_call0_v7_apply, val_main_call0_v10_apply, val_main_call0_v6_apply, val_main_call0_c_2_apply,
    val_main_call0_v9_apply, val_main_call0_v8_apply, val_main_call0_c_1_apply, index_apply hx,
    (checks_word (hx n)).2.1, (checks_word (hx n)).2.2]
  rfl

/-! ## The gathers -/

/-- The down-projections' gather: row `n` receives the matrix its index names, the index clamped to the last one. -/
theorem gather_down (A : FVec Ideal S8x1024x8 .f32) (idx : IVec S4096x1 32) (n : Fin 4096) (d : Fin 1024) (r : Fin 8) :
    Host.gather gather_S8x1024x8_S4096x1_S4096x1024x8_12_0_n_n_0_1_110248 A idx (ix3 n d r)
      = A (ix3 (⟨min (idx (ix2 n (0 : Fin 1))).toInt.toNat 7, by omega⟩ : Fin 8) d r) := by
  unfold Host.gather
  congr 1
  funext a
  refine Fin.ext ?_
  generalize hD : gather_S8x1024x8_S4096x1_S4096x1024x8_12_0_n_n_0_1_110248 = D
  show D.start (ix3 n d r) idx a + D.batchCoord (ix3 n d r) a + D.offCoord (ix3 n d r) a = _
  subst hD
  rw [GatherDims.batchCoord_eq_zero _ _ _ (List.not_mem_nil), Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (by decide), Nat.add_zero]
    unfold GatherDims.start
    rw [dif_pos (show (0 : Fin 3) ∈ gather_S8x1024x8_S4096x1_S4096x1024x8_12_0_n_n_0_1_110248.startIndexMap from List.mem_singleton.mpr rfl)]
    have hsi : ∀ h, gather_S8x1024x8_S4096x1_S4096x1024x8_12_0_n_n_0_1_110248.siIdx (ix3 n d r) ⟨0, h⟩
        = ix2 n (0 : Fin 1) := by
      intro h
      funext b; refine Fin.ext ?_
      match b with
      | ⟨0, _⟩ => rfl
      | ⟨1, _⟩ => rfl
    exact congrArg (fun k => min (idx k).toInt.toNat 7) (hsi _)
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- The up-projections' gather, likewise. -/
theorem gather_up (B : FVec Ideal S8x8x1024 .f32) (idx : IVec S4096x1 32) (n : Fin 4096) (r : Fin 8) (o : Fin 1024) :
    Host.gather gather_S8x8x1024_S4096x1_S4096x8x1024_12_0_n_n_0_1_181024 B idx (ix3 n r o)
      = B (ix3 (⟨min (idx (ix2 n (0 : Fin 1))).toInt.toNat 7, by omega⟩ : Fin 8) r o) := by
  unfold Host.gather
  congr 1
  funext a
  refine Fin.ext ?_
  generalize hD : gather_S8x8x1024_S4096x1_S4096x8x1024_12_0_n_n_0_1_181024 = D
  show D.start (ix3 n r o) idx a + D.batchCoord (ix3 n r o) a + D.offCoord (ix3 n r o) a = _
  subst hD
  rw [GatherDims.batchCoord_eq_zero _ _ _ (List.not_mem_nil), Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (by decide), Nat.add_zero]
    unfold GatherDims.start
    rw [dif_pos (show (0 : Fin 3) ∈ gather_S8x8x1024_S4096x1_S4096x8x1024_12_0_n_n_0_1_181024.startIndexMap from List.mem_singleton.mpr rfl)]
    have hsi : ∀ h, gather_S8x8x1024_S4096x1_S4096x8x1024_12_0_n_n_0_1_181024.siIdx (ix3 n r o) ⟨0, h⟩
        = ix2 n (0 : Fin 1) := by
      intro h
      funext b; refine Fin.ext ?_
      match b with
      | ⟨0, _⟩ => rfl
      | ⟨1, _⟩ => rfl
    exact congrArg (fun k => min (idx k).toInt.toNat 7) (hsi _)
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-! ## The lookups -/

/-- A row's clamped index is its band. -/
theorem clamped (hx : InRange x) (n : Fin 4096) :
    (⟨min (val_main_call0_v5 (F := Ideal) x (ix2 n (0 : Fin 1))).toInt.toNat 7, by omega⟩ : Fin 8) = band x n := by
  apply Fin.ext
  rw [band_val hx n]
  show min (val_main_call0_v5 (F := Ideal) x (ix2 n (0 : Fin 1))).toInt.toNat 7 = _
  rw [index_apply hx]
  show min (bandWord x n).toInt.toNat 7 = _
  have := hx n
  rw [toInt_of_lt this, Int.toNat_natCast]
  omega

/-- The first layer's down-projection of row `n`'s band. -/
theorem take_down1 (hx : InRange x) (A : FVec Ideal S8x1024x8 .f32) (n : Fin 4096) (d : Fin 1024) (r : Fin 8) :
    val_main_v4 (F := Ideal) x A (ix3 n d r) = A (ix3 (band x n) d r) := by
  rw [val_main_v4_apply, val_main_call0_v14_apply, found hx, select_one, ← clamped hx n]
  exact gather_down A _ n d r

/-- The first layer's up-projection of row `n`'s band. -/
theorem take_up1 (hx : InRange x) (B : FVec Ideal S8x8x1024 .f32) (n : Fin 4096) (r : Fin 8) (o : Fin 1024) :
    val_main_v5 (F := Ideal) x B (ix3 n r o) = B (ix3 (band x n) r o) := by
  have e : val_main_call1_v12 (F := Ideal) x = val_main_call0_v12 (F := Ideal) x := rfl
  rw [val_main_v5_apply, val_main_call1_v14_apply, e, found hx, select_one, ← clamped hx n]
  exact gather_up B (val_main_call0_v5 (F := Ideal) x) n r o

/-- The second layer's down-projection of row `n`'s band. -/
theorem take_down2 (hx : InRange x) (A : FVec Ideal S8x1024x8 .f32) (n : Fin 4096) (d : Fin 1024) (r : Fin 8) :
    val_main_v29 (F := Ideal) x A (ix3 n d r) = A (ix3 (band x n) d r) := by
  have e : val_main_call2_v12 (F := Ideal) x = val_main_call0_v12 (F := Ideal) x := rfl
  rw [val_main_v29_apply, val_main_call2_v14_apply, e, found hx, select_one, ← clamped hx n]
  exact gather_down A (val_main_call0_v5 (F := Ideal) x) n d r

/-- The second layer's up-projection of row `n`'s band. -/
theorem take_up2 (hx : InRange x) (B : FVec Ideal S8x8x1024 .f32) (n : Fin 4096) (r : Fin 8) (o : Fin 1024) :
    val_main_v30 (F := Ideal) x B (ix3 n r o) = B (ix3 (band x n) r o) := by
  have e : val_main_call3_v12 (F := Ideal) x = val_main_call0_v12 (F := Ideal) x := rfl
  rw [val_main_v30_apply, val_main_call3_v14_apply, e, found hx, select_one, ← clamped hx n]
  exact gather_up B (val_main_call0_v5 (F := Ideal) x) n r o

end Cert.ReferenceIdeal.RefTake

end
-- ==== Proof.RefValue.lean ====
/- The reference's result at an index: with every band in range, the perceptron's value there. -/
module

public import proofs.«01_k».proof.Proof.RefTake
public import proofs.«01_k».proof.Proof.Consts

@[expose] public section

noncomputable section

namespace Cert.ReferenceIdeal.RefValue

open Cert.ReferenceIdeal Cert.ReferenceIdeal.Gen Cert.ReferenceIdeal.Read Cert.ReferenceIdeal.RefTake Cert.Spec
open Idealize.ShloMosaic Idealize.ShloMosaic.ValueIdx

variable {x : FVec Ideal S4096x1025 .f32} (W1 : FVec Ideal S1024x1024 .f32) (b1 : FVec Ideal S1024 .f32)
  (W2 : FVec Ideal S1024x1024 .f32) (b2 : FVec Ideal S1024 .f32) (A1 : FVec Ideal S8x1024x8 .f32)
  (B1 : FVec Ideal S8x8x1024 .f32) (A2 : FVec Ideal S8x1024x8 .f32) (B2 : FVec Ideal S8x8x1024 .f32)

/-- The slice of the features. -/
theorem feats_apply (n : Fin 4096) (d : Fin 1024) : val_main_v0 (F := Ideal) x (ix2 n d) = feats x n d := by
  rw [val_main_v0_apply]
  show x _ = x _
  congr 1
  funext a; match a with | ⟨0, _⟩ => rfl | ⟨1, _⟩ => rfl

/-! ## The first layer -/

/-- The first layer's dense part. -/
theorem dense1_apply (n : Fin 4096) (h : Fin 1024) :
    val_main_v10 (F := Ideal) x W1 b1 (ix2 n h) = dense (feats x n) W1 b1 h := by
  rw [val_main_v10_apply, val_main_v7_apply, val_main_v9_apply, val_main_v8_apply]
  show (∑ k : Fin 1024, _) + _ = (∑ d : Fin 1024, _) + _
  congr 1
  · refine Finset.sum_congr rfl fun k _ => ?_
    have el : lidx_main_v7 (ix2 n h) k = ix2 n k := by funext a; match a with | ⟨0, _⟩ => rfl | ⟨1, _⟩ => rfl
    have er : idx_main_v6 (ridx_main_v7 (ix2 n h) k) = ix2 h k := by funext a; match a with | ⟨0, _⟩ => rfl | ⟨1, _⟩ => rfl
    rw [el, val_main_v6_apply, er, feats_apply]
  · congr 1
    funext a; match a with | ⟨0, _⟩ => rfl

/-- The first layer's down-projection. -/
theorem down1_apply (hx : InRange x) (n : Fin 4096) (r : Fin 8) :
    val_main_v11 (F := Ideal) x A1 (ix2 n r) = down (feats x n) A1 (band x n) r := by
  rw [val_main_v11_apply]
  refine Finset.sum_congr rfl fun k _ => ?_
  have el : lidx_main_v11 (ix2 n r) k = ix2 n k := by funext a; match a with | ⟨0, _⟩ => rfl | ⟨1, _⟩ => rfl
  have er : ridx_main_v11 (ix2 n r) k = ix3 n k r := by
    funext a; match a with | ⟨0, _⟩ => rfl | ⟨1, _⟩ => rfl | ⟨2, _⟩ => rfl
  rw [el, er, feats_apply, take_down1 hx]

/-- The first layer's adapter. -/
theorem adapter1_apply (hx : InRange x) (n : Fin 4096) (h : Fin 1024) :
    val_main_v12 (F := Ideal) x A1 B1 (ix2 n h) = adapter (feats x n) A1 B1 (band x n) h := by
  rw [val_main_v12_apply]
  refine Finset.sum_congr rfl fun r _ => ?_
  have el : lidx_main_v12 (ix2 n h) r = ix2 n r := by funext a; match a with | ⟨0, _⟩ => rfl | ⟨1, _⟩ => rfl
  have er : ridx_main_v12 (ix2 n h) r = ix3 n r h := by
    funext a; match a with | ⟨0, _⟩ => rfl | ⟨1, _⟩ => rfl | ⟨2, _⟩ => rfl
  rw [el, er, down1_apply A1 hx, take_up1 hx]

/-- The first layer, before its activation. -/
theorem layer1_apply (hx : InRange x) (n : Fin 4096) (h : Fin 1024) :
    val_main_v15 (F := Ideal) x W1 b1 A1 B1 (ix2 n h) = layer (feats x n) W1 b1 A1 B1 (band x n) h := by
  rw [val_main_v15_apply, val_main_v14_apply, dense1_apply, adapter1_apply A1 B1 hx, val_main_v13_apply, val_main_cst_apply]
  show _ + _ * Ideal.ofBits .f32 0x40000000#32 = _
  rw [Consts.ofBits_two]
  rfl

/-- The hidden activations. -/
theorem hidden_apply (hx : InRange x) (n : Fin 4096) (h : Fin 1024) :
    val_main_v23 (F := Ideal) x W1 b1 A1 B1 (ix2 n h) = hidden x W1 b1 A1 B1 n h := by
  rw [val_main_v23_apply, val_main_v17_apply, val_main_v22_apply, val_main_v21_apply, val_main_v18_apply, val_main_v20_apply,
    val_main_v19_apply, val_main_v16_apply, val_main_cst_0_apply, val_main_cst_1_apply, layer1_apply W1 b1 A1 B1 hx]
  show (Ideal.ofBits .f32 0x3F000000#32 * _) * Ideal.erfc (Ideal.div (-_) (Ideal.sqrt (Ideal.ofBits .f32 0x40000000#32))) = _
  rw [Consts.ofBits_two, Consts.ofBits_half, gelu_erfc]
  rfl

/-! ## The second layer -/

/-- The second layer's dense part. -/
theorem dense2_apply (hx : InRange x) (n : Fin 4096) (o : Fin 1024) :
    val_main_v28 (F := Ideal) x W1 b1 W2 b2 A1 B1 (ix2 n o) = dense (hidden x W1 b1 A1 B1 n) W2 b2 o := by
  rw [val_main_v28_apply, val_main_v25_apply, val_main_v27_apply, val_main_v26_apply]
  show (∑ k : Fin 1024, _) + _ = (∑ d : Fin 1024, _) + _
  congr 1
  · refine Finset.sum_congr rfl fun k _ => ?_
    have el : lidx_main_v25 (ix2 n o) k = ix2 n k := by funext a; match a with | ⟨0, _⟩ => rfl | ⟨1, _⟩ => rfl
    have er : idx_main_v24 (ridx_main_v25 (ix2 n o) k) = ix2 o k := by funext a; match a with | ⟨0, _⟩ => rfl | ⟨1, _⟩ => rfl
    rw [el, val_main_v24_apply, er, hidden_apply W1 b1 A1 B1 hx]
  · congr 1
    funext a; match a with | ⟨0, _⟩ => rfl

/-- The second layer's down-projection. -/
theorem down2_apply (hx : InRange x) (n : Fin 4096) (r : Fin 8) :
    val_main_v31 (F := Ideal) x W1 b1 A1 B1 A2 (ix2 n r) = down (hidden x W1 b1 A1 B1 n) A2 (band x n) r := by
  rw [val_main_v31_apply]
  refine Finset.sum_congr rfl fun k _ => ?_
  have el : lidx_main_v31 (ix2 n r) k = ix2 n k := by funext a; match a with | ⟨0, _⟩ => rfl | ⟨1, _⟩ => rfl
  have er : ridx_main_v31 (ix2 n r) k = ix3 n k r := by
    funext a; match a with | ⟨0, _⟩ => rfl | ⟨1, _⟩ => rfl | ⟨2, _⟩ => rfl
  rw [el, er, hidden_apply W1 b1 A1 B1 hx, take_down2 hx]

/-- The second layer's adapter. -/
theorem adapter2_apply (hx : InRange x) (n : Fin 4096) (o : Fin 1024) :
    val_main_v32 (F := Ideal) x W1 b1 A1 B1 A2 B2 (ix2 n o) = adapter (hidden x W1 b1 A1 B1 n) A2 B2 (band x n) o := by
  rw [val_main_v32_apply]
  refine Finset.sum_congr rfl fun r _ => ?_
  have el : lidx_main_v32 (ix2 n o) r = ix2 n r := by funext a; match a with | ⟨0, _⟩ => rfl | ⟨1, _⟩ => rfl
  have er : ridx_main_v32 (ix2 n o) r = ix3 n r o := by
    funext a; match a with | ⟨0, _⟩ => rfl | ⟨1, _⟩ => rfl | ⟨2, _⟩ => rfl
  rw [el, er, down2_apply W1 b1 A1 B1 A2 hx, take_up2 hx]

/-- The reference's result at row `n` and output `o` is the perceptron's value there, the bands being in range. -/
theorem result_apply (hx : InRange x) (n : Fin 4096) (o : Fin 1024) :
    val_main_v35 (F := Ideal) x W1 b1 W2 b2 A1 B1 A2 B2 (ix2 n o) = mlp x W1 b1 W2 b2 A1 B1 A2 B2 n o := by
  rw [val_main_v35_apply, val_main_v34_apply, dense2_apply W1 b1 W2 b2 A1 B1 hx, adapter2_apply W1 b1 A1 B1 A2 B2 hx,
    val_main_v33_apply, val_main_cst_2_apply]
  show _ + _ * Ideal.ofBits .f32 0x40000000#32 = _
  rw [Consts.ofBits_two]
  rfl

end Cert.ReferenceIdeal.RefValue

end
-- ==== Proof.InRange.lean ====
/- What the claim's precondition says of the input: every row's last column, as an integer, is a band from 0 to 7. -/
module

public import proofs.«01_k».proof.Defs
public import proofs.«01_k».proof.Proof.Spec
public import Idealize.ShloMosaic.Lib.ReduceAll
public import Idealize.ShloMosaic.Lib.Pipeline.Value

@[expose] public section

noncomputable section

namespace Cert.Pre_band_in_range

open Idealize.ShloMosaic Idealize.ShloMosaic.ValueIdx Cert.Spec

/-- The side conditions of the precondition's own operations. -/
theorem side_conditions : Facts := ⟨by decide, by decide⟩

/-- A word that is at least 0 and below 8 as a signed integer is below 8 as an unsigned one. -/
theorem word_lt {w : BitVec 32} (h : IntOp.andi (IntOp.cmpi .sge w 0#32) (IntOp.cmpi .slt w 8#32) = 1#1) : w.toNat < 8 := by
  obtain ⟨h0, h8⟩ := IntOp.andi_eq_one.1 h
  have e0 : (0#32).sle w = true := by
    by_contra hn
    rw [Bool.not_eq_true] at hn
    simp [IntOp.cmpi, hn] at h0
  have e8 : w.slt 8#32 = true := by
    by_contra hn
    rw [Bool.not_eq_true] at hn
    simp [IntOp.cmpi, hn] at h8
  rw [BitVec.sle_iff_toInt_le] at e0
  rw [BitVec.slt_iff_toInt_lt] at e8
  have z0 : (0#32).toInt = 0 := by decide
  have z8 : (8#32).toInt = 8 := by decide
  rw [z0] at e0
  rw [z8] at e8
  have c := BitVec.toInt_eq_toNat_cond w
  have := w.isLt
  split at c <;> omega

/-- Where the precondition is one at every row, every row's band is in range. -/
theorem inRange_of_ones [Facts] (x : FVec Ideal S4096x1025 .f32) (W1 : FVec Ideal S1024x1024 .f32) (b1 : FVec Ideal S1024 .f32)
    (W2 : FVec Ideal S1024x1024 .f32) (b2 : FVec Ideal S1024 .f32) (A1 : FVec Ideal S8x1024x8 .f32)
    (B1 : FVec Ideal S8x8x1024 .f32) (A2 : FVec Ideal S8x1024x8 .f32) (B2 : FVec Ideal S8x8x1024 .f32)
    (h : fn (F := Ideal) x W1 b1 W2 b2 A1 B1 A2 B2 = fun _ => 1#1) : InRange x := by
  intro n
  have e := congrFun h (ix2 n (0 : Fin 1))
  have hs : extractStridedSlice S4096x1 ![0, 1024] x Facts.slices_S4096x1025_S4096x1_0_1024 (ix2 n (0 : Fin 1))
      = x (ix2 n (⟨1024, by omega⟩ : Fin 1025)) :=
    extractStridedSlice_apply ![0, 1024] x Facts.slices_S4096x1025_S4096x1_0_1024 (ix2 n (0 : Fin 1)) _ (fun a => match a with
      | ⟨0, _⟩ => by show n.val = 0 + n.val; omega
      | ⟨1, _⟩ => rfl)
  apply word_lt
  unfold bandWord
  rw [← hs]
  exact e

end Cert.Pre_band_in_range

end
-- ==== Proof.lean ====
/- `Spec` (the function both compute), `Consts` (the constants), `Dots` and `Block` (one grid step of the kernel),
   `HostArrays` and `KernelArray` (the kernel's whole result), `RefTake` and `RefValue` (the reference's result),
   `InRange` (what the precondition says). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.RefValue
public import proofs.«01_k».proof.Proof.InRange
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

instance kernelFacts : Cert.Kernel.Facts := Cert.Kernel.Gen.facts
instance kernelIdealFacts : Cert.KernelIdeal.Facts := Cert.KernelIdeal.Gen.facts
instance referenceIdealFacts : Cert.ReferenceIdeal.Facts := Cert.ReferenceIdeal.Gen.facts
instance preFacts : Cert.Pre_band_in_range.Facts := Cert.Pre_band_in_range.side_conditions

/-! ## The programs run, leave their arguments alone, and end with every semaphore at zero -/

theorem frame_kernel : Cert.quiescent_Kernel := fun m ρ _ => Cert.Kernel.Gen.frame m ρ

theorem frame_kernel_ideal : Cert.quiescent_KernelIdeal := fun m ρ _ => Cert.KernelIdeal.Gen.frame m ρ

theorem frame_kernel_ideal_pre : Cert.quiescent_KernelIdeal_pre_band_in_range := fun m ρ _ => Cert.KernelIdeal.Gen.frame m ρ

/-- The reference holds no semaphore at all, so its counters are zero at any state. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_band_in_range := fun m ρ _ => frame_reference m ρ trivial

/-! ## The idealized kernel is the kernel with its constant named -/

/-- The kernel's literal 0.70710677 is `1/√2` rounded, and the named constant is `1/√2` itself. -/
theorem preserves : Cert.preserves_Kernel_KernelIdeal :=
  IdealRules.named_const.statement Cert.KernelIdeal.κ "inv_sqrt2" .f32 0x3F3504F3#32 (((Real.sqrt 2)⁻¹ : ℝ) : EReal) rfl

/-! ## The idealized kernel computes what the reference computes -/

/-- Where every row's band is one of the eight, the kernel's result is the reference's: at each row and output both
    are the perceptron's value there. -/
theorem algebraic : Cert.algebraic_KernelIdeal_ReferenceIdeal_pre_band_in_range := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  have hx := Cert.Pre_band_in_range.inRange_of_ones _ _ _ _ _ _ _ _ _ (hpre c)
  rw [Cert.ReferenceIdeal.Read.val_main_v35_eq, a0, a1, a2, a3, a4, a5, a6, a7, a8]
  funext i
  obtain ⟨n, o, rfl⟩ : ∃ (n : Fin 4096) (o : Fin 1024), i = ix2 n o := ⟨i 0, i 1, eq_ix2 i⟩
  exact (Cert.ReferenceIdeal.RefValue.result_apply _ _ _ _ _ _ _ _ hx n o).trans
    (Cert.KernelIdeal.KernelArray.final_apply m c hx n o).symm

/-! ## The claim -/

theorem claim : Cert.Claim :=
  ⟨Cert.Kernel.Gen.facts, Cert.KernelIdeal.Gen.facts, Cert.ReferenceIdeal.Gen.facts, Cert.Pre_band_in_range.side_conditions,
    frame_kernel, frame_kernel_ideal, frame_kernel_ideal_pre, frame_reference, frame_reference_pre, preserves, algebraic⟩

end Cert.Proof

end
